-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v7)) (v6 : (c : Dev Cert.KernelIdeal.nD) → Buf (Elt Ideal) ((c.tc : Thread Cert.KernelIdeal.nD Cert.KernelIdeal.τ).loc Cert.KernelIdeal.main_v8)) (v7 : (c : Dev Cert.KernelIdeal.nD) → Buf (Elt Ideal) ((c.tc : Thread Cert.KernelIdeal.nD Cert.KernelIdeal.τ).loc Cert.KernelIdeal.main_v9)) (v8 : (c : Dev Cert.KernelIdeal.nD) → Buf (Elt Ideal) ((c.tc : Thread Cert.KernelIdeal.nD Cert.KernelIdeal.τ).loc Cert.KernelIdeal.main_v10)) (v9 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_v8) = v6 c
          ∧ r.2.mem ((c.tc : Thread Cert.KernelIdeal.nD Cert.KernelIdeal.τ).loc Cert.KernelIdeal.main_v9) = v7 c
          ∧ r.2.mem ((c.tc : Thread Cert.KernelIdeal.nD Cert.KernelIdeal.τ).loc Cert.KernelIdeal.main_v10) = v8 c
          ∧ r.2.mem ((c.tc : Thread Cert.KernelIdeal.nD Cert.KernelIdeal.τ).loc Cert.KernelIdeal.main_v11) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_indices) = v3 c
          ∧ r.2.mem ((c.tc : Thread Cert.ReferenceIdeal.nD Cert.ReferenceIdeal.τ).loc Cert.ReferenceIdeal.main_indices_25) = v4 c
          ∧ r.2.mem ((c.tc : Thread Cert.ReferenceIdeal.nD Cert.ReferenceIdeal.τ).loc Cert.ReferenceIdeal.main_indices_40) = v5 c
          ∧ r.2.mem ((c.tc : Thread Cert.ReferenceIdeal.nD Cert.ReferenceIdeal.τ).loc Cert.ReferenceIdeal.main_indices_15) = v6 c
          ∧ r.2.mem ((c.tc : Thread Cert.ReferenceIdeal.nD Cert.ReferenceIdeal.τ).loc Cert.ReferenceIdeal.main_indices_30) = v7 c
          ∧ r.2.mem ((c.tc : Thread Cert.ReferenceIdeal.nD Cert.ReferenceIdeal.τ).loc Cert.ReferenceIdeal.main_indices_20) = v8 c
          ∧ r.2.mem ((c.tc : Thread Cert.ReferenceIdeal.nD Cert.ReferenceIdeal.τ).loc Cert.ReferenceIdeal.main_indices_35) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  main_v3
-- ==== Kernel.lean ====
abbrev S4x4096x3 : Shape := ⟨3, ![4, 4096, 3]⟩
abbrev S4x3x4096 : Shape := ⟨3, ![4, 3, 4096]⟩
abbrev S4x1024x3 : Shape := ⟨3, ![4, 1024, 3]⟩
abbrev S4x1x4096 : Shape := ⟨3, ![4, 1, 4096]⟩
abbrev S4x4096 : Shape := ⟨2, ![4, 4096]⟩
abbrev S4x1 : Shape := ⟨2, ![4, 1]⟩
abbrev S4x1x1 : Shape := ⟨3, ![4, 1, 1]⟩
abbrev S4x1x3 : Shape := ⟨3, ![4, 1, 3]⟩
abbrev S4 : Shape := ⟨1, ![4]⟩
abbrev S4x3x1024 : Shape := ⟨3, ![4, 3, 1024]⟩
abbrev S4x256x3 : Shape := ⟨3, ![4, 256, 3]⟩
abbrev S4x1x1024 : Shape := ⟨3, ![4, 1, 1024]⟩
abbrev S4x1024 : Shape := ⟨2, ![4, 1024]⟩
abbrev S4x3x256 : Shape := ⟨3, ![4, 3, 256]⟩
abbrev S4x4096x16 : Shape := ⟨3, ![4, 4096, 16]⟩
abbrev S1x512x3 : Shape := ⟨3, ![1, 512, 3]⟩
abbrev S1x3x4096 : Shape := ⟨3, ![1, 3, 4096]⟩
abbrev S1x512x16 : Shape := ⟨3, ![1, 512, 16]⟩
abbrev S1x512x1 : Shape := ⟨3, ![1, 512, 1]⟩
abbrev S512x1 : Shape := ⟨2, ![512, 1]⟩
abbrev S1x1x4096 : Shape := ⟨3, ![1, 1, 4096]⟩
abbrev S1x4096 : Shape := ⟨2, ![1, 4096]⟩
abbrev S512x3 : Shape := ⟨2, ![512, 3]⟩
abbrev S3x4096 : Shape := ⟨2, ![3, 4096]⟩
abbrev S512x4096 : Shape := ⟨2, ![512, 4096]⟩
abbrev S512 : Shape := ⟨1, ![512]⟩
abbrev S4x1024x16 : Shape := ⟨3, ![4, 1024, 16]⟩
abbrev S1x3x1024 : Shape := ⟨3, ![1, 3, 1024]⟩
abbrev S1x1x1024 : Shape := ⟨3, ![1, 1, 1024]⟩
abbrev S1x1024 : Shape := ⟨2, ![1, 1024]⟩
abbrev S3x1024 : Shape := ⟨2, ![3, 1024]⟩
abbrev S512x1024 : Shape := ⟨2, ![512, 1024]⟩
abbrev S4x256x16 : Shape := ⟨3, ![4, 256, 16]⟩
abbrev S1x256x3 : Shape := ⟨3, ![1, 256, 3]⟩
abbrev S1x3x256 : Shape := ⟨3, ![1, 3, 256]⟩
abbrev S1x256x16 : Shape := ⟨3, ![1, 256, 16]⟩
abbrev S1x256x1 : Shape := ⟨3, ![1, 256, 1]⟩
abbrev S256x1 : Shape := ⟨2, ![256, 1]⟩
abbrev S1x1x256 : Shape := ⟨3, ![1, 1, 256]⟩
abbrev S1x256 : Shape := ⟨2, ![1, 256]⟩
abbrev S256x3 : Shape := ⟨2, ![256, 3]⟩
abbrev S3x256 : Shape := ⟨2, ![3, 256]⟩
abbrev S256x256 : Shape := ⟨2, ![256, 256]⟩
abbrev S256 : Shape := ⟨1, ![256]⟩
abbrev S256x1024 : Shape := ⟨2, ![256, 1024]⟩
abbrev S512x256 : Shape := ⟨2, ![512, 256]⟩

abbrev nBuf : Space → Nat
  | .hbm => 13
  | .vmem => 46
  | .smem => 0
  | _ => 0

abbrev bufTy : (tb : Table) → Fin (tcTables nBuf tb) → BufTy
  | .hbm, ⟨0, _⟩ => ⟨S4x4096x3, .f32⟩
  | .hbm, ⟨1, _⟩ => ⟨S4x3x4096, .f32⟩
  | .hbm, ⟨2, _⟩ => ⟨S4x1024x3, .f32⟩
  | .hbm, ⟨3, _⟩ => ⟨S4x3x1024, .f32⟩
  | .hbm, ⟨4, _⟩ => ⟨S4x256x3, .f32⟩
  | .hbm, ⟨5, _⟩ => ⟨S4x3x256, .f32⟩
  | .hbm, ⟨6, _⟩ => ⟨S4x4096x16, .i32⟩
  | .hbm, ⟨7, _⟩ => ⟨S4x1024x16, .i32⟩
  | .hbm, ⟨8, _⟩ => ⟨S4x256x16, .i32⟩
  | .hbm, ⟨9, _⟩ => ⟨S4x1024x16, .i32⟩
  | .hbm, ⟨10, _⟩ => ⟨S4x256x16, .i32⟩
  | .hbm, ⟨11, _⟩ => ⟨S4x4096x16, .i32⟩
  | .hbm, ⟨12, _⟩ => ⟨S4x1024x16, .i32⟩
  | .local _ .vmem, ⟨0, _⟩ => ⟨S4x3x4096, .f32⟩
  | .local _ .vmem, ⟨1, _⟩ => ⟨S4x1024x3, .f32⟩
  | .local _ .vmem, ⟨2, _⟩ => ⟨S4x3x1024, .f32⟩
  | .local _ .vmem, ⟨3, _⟩ => ⟨S4x256x3, .f32⟩
  | .local _ .vmem, ⟨4, _⟩ => ⟨S1x512x3, .f32⟩
  | .local _ .vmem, ⟨5, _⟩ => ⟨S1x512x3, .f32⟩
  | .local _ .vmem, ⟨6, _⟩ => ⟨S1x3x4096, .f32⟩
  | .local _ .vmem, ⟨7, _⟩ => ⟨S1x3x4096, .f32⟩
  | .local _ .vmem, ⟨8, _⟩ => ⟨S1x512x16, .i32⟩
  | .local _ .vmem, ⟨9, _⟩ => ⟨S1x512x16, .i32⟩
  | .local _ .vmem, ⟨10, _⟩ => ⟨S1x512x3, .f32⟩
  | .local _ .vmem, ⟨11, _⟩ => ⟨S1x512x3, .f32⟩
  | .local _ .vmem, ⟨12, _⟩ => ⟨S1x3x1024, .f32⟩
  | .local _ .vmem, ⟨13, _⟩ => ⟨S1x3x1024, .f32⟩
  | .local _ .vmem, ⟨14, _⟩ => ⟨S1x512x16, .i32⟩
  | .local _ .vmem, ⟨15, _⟩ => ⟨S1x512x16, .i32⟩
  | .local _ .vmem, ⟨16, _⟩ => ⟨S1x256x3, .f32⟩
  | .local _ .vmem, ⟨17, _⟩ => ⟨S1x256x3, .f32⟩
  | .local _ .vmem, ⟨18, _⟩ => ⟨S1x3x256, .f32⟩
  | .local _ .vmem, ⟨19, _⟩ => ⟨S1x3x256, .f32⟩
  | .local _ .vmem, ⟨20, _⟩ => ⟨S1x256x16, .i32⟩
  | .local _ .vmem, ⟨21, _⟩ => ⟨S1x256x16, .i32⟩
  | .local _ .vmem, ⟨22, _⟩ => ⟨S1x512x3, .f32⟩
  | .local _ .vmem, ⟨23, _⟩ => ⟨S1x512x3, .f32⟩
  | .local _ .vmem, ⟨24, _⟩ => ⟨S1x3x4096, .f32⟩
  | .local _ .vmem, ⟨25, _⟩ => ⟨S1x3x4096, .f32⟩
  | .local _ .vmem, ⟨26, _⟩ => ⟨S1x512x16, .i32⟩
  | .local _ .vmem, ⟨27, _⟩ => ⟨S1x512x16, .i32⟩
  | .local _ .vmem, ⟨28, _⟩ => ⟨S1x256x3, .f32⟩
  | .local _ .vmem, ⟨29, _⟩ => ⟨S1x256x3, .f32⟩
  | .local _ .vmem, ⟨30, _⟩ => ⟨S1x3x1024, .f32⟩
  | .local _ .vmem, ⟨31, _⟩ => ⟨S1x3x1024, .f32⟩
  | .local _ .vmem, ⟨32, _⟩ => ⟨S1x256x16, .i32⟩
  | .local _ .vmem, ⟨33, _⟩ => ⟨S1x256x16, .i32⟩
  | .local _ .vmem, ⟨34, _⟩ => ⟨S1x512x3, .f32⟩
  | .local _ .vmem, ⟨35, _⟩ => ⟨S1x512x3, .f32⟩
  | .local _ .vmem, ⟨36, _⟩ => ⟨S1x3x1024, .f32⟩
  | .local _ .vmem, ⟨37, _⟩ => ⟨S1x3x1024, .f32⟩
  | .local _ .vmem, ⟨38, _⟩ => ⟨S1x512x16, .i32⟩
  | .local _ .vmem, ⟨39, _⟩ => ⟨S1x512x16, .i32⟩
  | .local _ .vmem, ⟨40, _⟩ => ⟨S1x512x3, .f32⟩
  | .local _ .vmem, ⟨41, _⟩ => ⟨S1x512x3, .f32⟩
  | .local _ .vmem, ⟨42, _⟩ => ⟨S1x3x256, .f32⟩
  | .local _ .vmem, ⟨43, _⟩ => ⟨S1x3x256, .f32⟩
  | .local _ .vmem, ⟨44, _⟩ => ⟨S1x512x16, .i32⟩
  | .local _ .vmem, ⟨45, _⟩ => ⟨S1x512x16, .i32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg1_1 : Ref sig .tc := ⟨.vmem, 13, rfl⟩
abbrev cc3_stg2_0 : Ref sig .tc := ⟨.vmem, 14, rfl⟩
abbrev cc3_stg2_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc5_stg0_0 : Ref sig .tc := ⟨.vmem, 22, rfl⟩
abbrev cc5_stg0_1 : Ref sig .tc := ⟨.vmem, 23, rfl⟩
abbrev cc5_stg1_0 : Ref sig .tc := ⟨.vmem, 24, rfl⟩
abbrev cc5_stg1_1 : Ref sig .tc := ⟨.vmem, 25, rfl⟩
abbrev cc5_stg2_0 : Ref sig .tc := ⟨.vmem, 26, rfl⟩
abbrev cc5_stg2_1 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg1_1 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc8_stg2_1 : Ref sig .tc := ⟨.vmem, 45, rfl⟩
abbrev cc0_sem0_0 : DmaSem sig := 0
abbrev cc0_sem1_0 : DmaSem sig := 1
abbrev cc1_sem0_0 : DmaSem sig := 2
abbrev cc1_sem1_0 : DmaSem sig := 3
abbrev cc2_sem0_0 : DmaSem sig := 4
abbrev cc2_sem0_1 : DmaSem sig := 5
abbrev cc2_sem1_0 : DmaSem sig := 6
abbrev cc2_sem1_1 : DmaSem sig := 7
abbrev cc2_sem2_0 : DmaSem sig := 8
abbrev cc2_sem2_1 : DmaSem sig := 9
abbrev cc3_sem0_0 : DmaSem sig := 10
abbrev cc3_sem0_1 : DmaSem sig := 11
abbrev cc3_sem1_0 : DmaSem sig := 12
abbrev cc3_sem1_1 : DmaSem sig := 13
abbrev cc3_sem2_0 : DmaSem sig := 14
abbrev cc3_sem2_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc5_sem0_0 : DmaSem sig := 22
abbrev cc5_sem0_1 : DmaSem sig := 23
abbrev cc5_sem1_0 : DmaSem sig := 24
abbrev cc5_sem1_1 : DmaSem sig := 25
abbrev cc5_sem2_0 : DmaSem sig := 26
abbrev cc5_sem2_1 : DmaSem sig := 27
abbrev cc6_sem0_0 : DmaSem sig := 28
abbrev cc6_sem0_1 : DmaSem sig := 29
abbrev cc6_sem1_0 : DmaSem sig := 30
abbrev cc6_sem1_1 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem1_1 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc8_sem2_1 : DmaSem sig := 45

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c1023_i32 : BitVec 32 := 1023#32
  let v16 : BitVec 32 := Scalar.addi c1_i32 c1023_i32
  let c1_i32_9 : BitVec 32 := 1#32
  ⟨c1_i32, v16, c1_i32_9⟩
def k0_off1 (k0_t1 : Fin k0_t1_loop.trips) : Fin 3 → Nat :=
  let c0_19 : Index := 0#32
  let c1_i32 : BitVec 32 := 1#32
  let c1_i32_9 : BitVec 32 := 1#32
  let arg2 : BitVec 32 := Scf.iv c1_i32 c1_i32_9 k0_t1
  let v56 : Index := Scalar.indexCast arg2
  let c0_20 : Index := 0#32
  ![0, v56.toNat, 0]
abbrev stage0_0 : Fin 1 → Memref sig .tc .vmem S4x3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

@[reducible] def k1_t1_loop : Scf.Loop 32 :=
  let c1_i32 : BitVec 32 := 1#32
  let c255_i32 : BitVec 32 := 255#32
  let v16 : BitVec 32 := Scalar.addi c1_i32 c255_i32
  let c1_i32_9 : BitVec 32 := 1#32
  ⟨c1_i32, v16, c1_i32_9⟩
def k1_off1 (k1_t1 : Fin k1_t1_loop.trips) : Fin 3 → Nat :=
  let c0_19 : Index := 0#32
  let c1_i32 : BitVec 32 := 1#32
  let c1_i32_9 : BitVec 32 := 1#32
  let arg2 : BitVec 32 := Scf.iv c1_i32 c1_i32_9 k1_t1
  let v56 : Index := Scalar.indexCast arg2
  let c0_20 : Index := 0#32
  ![0, v56.toNat, 0]
abbrev stage1_0 : Fin 1 → Memref sig .tc .vmem S4x3x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x256x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x16 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x3x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x512x16 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 1], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x256x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x3x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x256x16 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x512x3 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x3x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x512x16 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![4, 1], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x256x3 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x3x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1x256x16 .i32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 8], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 2 → Memref sig .tc .vmem S1x512x3 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x3x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S1x512x16 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![4, 2], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage8_0 : Fin 2 → Memref sig .tc .vmem S1x512x3 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x3x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S1x512x16 .i32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== ReferenceIdeal.lean ====
abbrev S4x4096x3 : Shape := ⟨3, ![4, 4096, 3]⟩
abbrev S_ : Shape := ⟨0, ![]⟩
abbrev S4x4096 : Shape := ⟨2, ![4, 4096]⟩
abbrev S4 : Shape := ⟨1, ![4]⟩
abbrev S1023x4 : Shape := ⟨2, ![1023, 4]⟩
abbrev S4x1x1 : Shape := ⟨3, ![4, 1, 1]⟩
abbrev S4x1x3 : Shape := ⟨3, ![4, 1, 3]⟩
abbrev S1x4 : Shape := ⟨2, ![1, 4]⟩
abbrev S1024x4 : Shape := ⟨2, ![1024, 4]⟩
abbrev S4x1024 : Shape := ⟨2, ![4, 1024]⟩
abbrev S4x1024x1 : Shape := ⟨3, ![4, 1024, 1]⟩
abbrev S4x1024x3 : Shape := ⟨3, ![4, 1024, 3]⟩
abbrev S255x4 : Shape := ⟨2, ![255, 4]⟩
abbrev S256x4 : Shape := ⟨2, ![256, 4]⟩
abbrev S4x256 : Shape := ⟨2, ![4, 256]⟩
abbrev S4x256x1 : Shape := ⟨3, ![4, 256, 1]⟩
abbrev S4x256x3 : Shape := ⟨3, ![4, 256, 3]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x16 : Shape := ⟨3, ![4, 4096, 16]⟩
abbrev S4x1024x4096 : Shape := ⟨3, ![4, 1024, 4096]⟩
abbrev S4x1024x16 : Shape := ⟨3, ![4, 1024, 16]⟩
abbrev S4x1x1024 : Shape := ⟨3, ![4, 1, 1024]⟩
abbrev S4x4096x1024 : Shape := ⟨3, ![4, 4096, 1024]⟩
abbrev S4x1024x1024 : Shape := ⟨3, ![4, 1024, 1024]⟩
abbrev S4x256x1024 : Shape := ⟨3, ![4, 256, 1024]⟩
abbrev S4x256x16 : Shape := ⟨3, ![4, 256, 16]⟩
abbrev S4x1x256 : Shape := ⟨3, ![4, 1, 256]⟩
abbrev S4x1024x256 : Shape := ⟨3, ![4, 1024, 256]⟩
abbrev S4x256x256 : Shape := ⟨3, ![4, 256, 256]⟩

abbrev nBuf : Space → Nat
  | .hbm => 238
  | .vmem => 0
  | .smem => 0
  | _ => 0

abbrev hbmTy0_0 (i : Nat) : BufTy := match i % 128 with
  | 0 => ⟨S4x4096x3, .f32⟩
  | 1 => ⟨S_, .f32⟩
  | 2 => ⟨S4x4096, .f32⟩
  | 3 => ⟨S_, .i32⟩
  | 4 => ⟨S4, .i32⟩
  | 5 => ⟨S_, .i32⟩
  | 6 => ⟨S1023x4, .i32⟩
  | 7 => ⟨S_, .i32⟩
  | 8 => ⟨S4x4096x3, .f32⟩
  | 9 => ⟨S_, .i32⟩
  | 10 => ⟨S4x4096, .f32⟩
  | 11 => ⟨S4, .i32⟩
  | 12 => ⟨S1023x4, .i32⟩
  | 13 => ⟨S_, .i32⟩
  | 14 => ⟨S_, .i1⟩
  | 15 => ⟨S4x1x1, .i32⟩
  | 16 => ⟨S_, .i32⟩
  | 17 => ⟨S4x1x1, .i32⟩
  | 18 => ⟨S4x1x1, .i1⟩
  | 19 => ⟨S_, .i32⟩
  | 20 => ⟨S4x1x1, .i32⟩
  | 21 => ⟨S4x1x1, .i32⟩
  | 22 => ⟨S4x1x1, .i32⟩
  | 23 => ⟨S4x1x3, .f32⟩
  | 24 => ⟨S4x4096x3, .f32⟩
  | 25 => ⟨S4x4096x3, .f32⟩
  | 26 => ⟨S4x4096x3, .f32⟩
  | 27 => ⟨S_, .f32⟩
  | 28 => ⟨S4x4096, .f32⟩
  | 29 => ⟨S4x4096, .f32⟩
  | 30 => ⟨S4x4096, .i32⟩
  | 31 => ⟨S_, .f32⟩
  | 32 => ⟨S_, .i32⟩
  | 33 => ⟨S4, .f32⟩
  | 34 => ⟨S4, .i32⟩
  | 35 => ⟨S1x4, .i32⟩
  | 36 => ⟨S_, .i32⟩
  | 37 => ⟨S1023x4, .i32⟩
  | 38 => ⟨S_, .i32⟩
  | 39 => ⟨S_, .i32⟩
  | 40 => ⟨S_, .i32⟩
  | 41 => ⟨S1x4, .i32⟩
  | 42 => ⟨S1024x4, .i32⟩
  | 43 => ⟨S4x1024, .i32⟩
  | 44 => ⟨S4x1024x1, .i32⟩
  | 45 => ⟨S_, .i32⟩
  | 46 => ⟨S4x1024x1, .i32⟩
  | 47 => ⟨S4x1024x1, .i1⟩
  | 48 => ⟨S_, .i32⟩
  | 49 => ⟨S4x1024x1, .i32⟩
  | 50 => ⟨S4x1024x1, .i32⟩
  | 51 => ⟨S4x1024x1, .i32⟩
  | 52 => ⟨S4x1024x3, .f32⟩
  | 53 => ⟨S_, .f32⟩
  | 54 => ⟨S4x1024, .f32⟩
  | 55 => ⟨S_, .i32⟩
  | 56 => ⟨S4, .i32⟩
  | 57 => ⟨S_, .i32⟩
  | 58 => ⟨S255x4, .i32⟩
  | 59 => ⟨S_, .i32⟩
  | 60 => ⟨S4x1024x3, .f32⟩
  | 61 => ⟨S_, .i32⟩
  | 62 => ⟨S4x1024, .f32⟩
  | 63 => ⟨S4, .i32⟩
  | 64 => ⟨S255x4, .i32⟩
  | 65 => ⟨S_, .i32⟩
  | 66 => ⟨S_, .i1⟩
  | 67 => ⟨S4x1x1, .i32⟩
  | 68 => ⟨S_, .i32⟩
  | 69 => ⟨S4x1x1, .i32⟩
  | 70 => ⟨S4x1x1, .i1⟩
  | 71 => ⟨S_, .i32⟩
  | 72 => ⟨S4x1x1, .i32⟩
  | 73 => ⟨S4x1x1, .i32⟩
  | 74 => ⟨S4x1x1, .i32⟩
  | 75 => ⟨S4x1x3, .f32⟩
  | 76 => ⟨S4x1024x3, .f32⟩
  | 77 => ⟨S4x1024x3, .f32⟩
  | 78 => ⟨S4x1024x3, .f32⟩
  | 79 => ⟨S_, .f32⟩
  | 80 => ⟨S4x1024, .f32⟩
  | 81 => ⟨S4x1024, .f32⟩
  | 82 => ⟨S4x1024, .i32⟩
  | 83 => ⟨S_, .f32⟩
  | 84 => ⟨S_, .i32⟩
  | 85 => ⟨S4, .f32⟩
  | 86 => ⟨S4, .i32⟩
  | 87 => ⟨S1x4, .i32⟩
  | 88 => ⟨S_, .i32⟩
  | 89 => ⟨S255x4, .i32⟩
  | 90 => ⟨S_, .i32⟩
  | 91 => ⟨S_, .i32⟩
  | 92 => ⟨S_, .i32⟩
  | 93 => ⟨S1x4, .i32⟩
  | 94 => ⟨S256x4, .i32⟩
  | 95 => ⟨S4x256, .i32⟩
  | 96 => ⟨S4x256x1, .i32⟩
  | 97 => ⟨S_, .i32⟩
  | 98 => ⟨S4x256x1, .i32⟩
  | 99 => ⟨S4x256x1, .i1⟩
  | 100 => ⟨S_, .i32⟩
  | 101 => ⟨S4x256x1, .i32⟩
  | 102 => ⟨S4x256x1, .i32⟩
  | 103 => ⟨S4x256x1, .i32⟩
  | 104 => ⟨S4x256x3, .f32⟩
  | 105 => ⟨S4x4096x3, .f32⟩
  | 106 => ⟨S_, .f32⟩
  | 107 => ⟨S4x4096, .f32⟩
  | 108 => ⟨S4x4096x1, .f32⟩
  | 109 => ⟨S4x4096x3, .f32⟩
  | 110 => ⟨S_, .f32⟩
  | 111 => ⟨S4x4096, .f32⟩
  | 112 => ⟨S4x1x4096, .f32⟩
  | 113 => ⟨S4x4096x4096, .f32⟩
  | 114 => ⟨S4x4096x4096, .f32⟩
  | 115 => ⟨S4x4096x4096, .f32⟩
  | 116 => ⟨S4x4096x4096, .f32⟩
  | 117 => ⟨S_, .f32⟩
  | 118 => ⟨S4x4096x4096, .f32⟩
  | 119 => ⟨S4x4096x4096, .f32⟩
  | 120 => ⟨S4x4096x4096, .f32⟩
  | 121 => ⟨S4x4096x4096, .f32⟩
  | 122 => ⟨S4x4096x16, .f32⟩
  | 123 => ⟨S4x4096x16, .i32⟩
  | 124 => ⟨S4x1024x3, .f32⟩
  | 125 => ⟨S_, .f32⟩
  | 126 => ⟨S4x1024, .f32⟩
  | 127 => ⟨S4x1024x1, .f32⟩
  | _ => ⟨S4x4096x3, .f32⟩

abbrev hbmTy0_1 (i : Nat) : BufTy := match i % 128 with
  | 0 => ⟨S4x4096x3, .f32⟩
  | 1 => ⟨S_, .f32⟩
  | 2 => ⟨S4x4096, .f32⟩
  | 3 => ⟨S4x1x4096, .f32⟩
  | 4 => ⟨S4x1024x4096, .f32⟩
  | 5 => ⟨S4x1024x4096, .f32⟩
  | 6 => ⟨S4x1024x4096, .f32⟩
  | 7 => ⟨S4x1024x4096, .f32⟩
  | 8 => ⟨S_, .f32⟩
  | 9 => ⟨S4x1024x4096, .f32⟩
  | 10 => ⟨S4x1024x4096, .f32⟩
  | 11 => ⟨S4x1024x4096, .f32⟩
  | 12 => ⟨S4x1024x4096, .f32⟩
  | 13 => ⟨S4x1024x16, .f32⟩
  | 14 => ⟨S4x1024x16, .i32⟩
  | 15 => ⟨S4x4096x3, .f32⟩
  | 16 => ⟨S_, .f32⟩
  | 17 => ⟨S4x4096, .f32⟩
  | 18 => ⟨S4x4096x1, .f32⟩
  | 19 => ⟨S4x1024x3, .f32⟩
  | 20 => ⟨S_, .f32⟩
  | 21 => ⟨S4x1024, .f32⟩
  | 22 => ⟨S4x1x1024, .f32⟩
  | 23 => ⟨S4x4096x1024, .f32⟩
  | 24 => ⟨S4x4096x1024, .f32⟩
  | 25 => ⟨S4x4096x1024, .f32⟩
  | 26 => ⟨S4x4096x1024, .f32⟩
  | 27 => ⟨S_, .f32⟩
  | 28 => ⟨S4x4096x1024, .f32⟩
  | 29 => ⟨S4x4096x1024, .f32⟩
  | 30 => ⟨S4x4096x1024, .f32⟩
  | 31 => ⟨S4x4096x1024, .f32⟩
  | 32 => ⟨S4x4096x16, .f32⟩
  | 33 => ⟨S4x4096x16, .i32⟩
  | 34 => ⟨S4x1024x3, .f32⟩
  | 35 => ⟨S_, .f32⟩
  | 36 => ⟨S4x1024, .f32⟩
  | 37 => ⟨S4x1024x1, .f32⟩
  | 38 => ⟨S4x1024x3, .f32⟩
  | 39 => ⟨S_, .f32⟩
  | 40 => ⟨S4x1024, .f32⟩
  | 41 => ⟨S4x1x1024, .f32⟩
  | 42 => ⟨S4x1024x1024, .f32⟩
  | 43 => ⟨S4x1024x1024, .f32⟩
  | 44 => ⟨S4x1024x1024, .f32⟩
  | 45 => ⟨S4x1024x1024, .f32⟩
  | 46 => ⟨S_, .f32⟩
  | 47 => ⟨S4x1024x1024, .f32⟩
  | 48 => ⟨S4x1024x1024, .f32⟩
  | 49 => ⟨S4x1024x1024, .f32⟩
  | 50 => ⟨S4x1024x1024, .f32⟩
  | 51 => ⟨S4x1024x16, .f32⟩
  | 52 => ⟨S4x1024x16, .i32⟩
  | 53 => ⟨S4x256x3, .f32⟩
  | 54 => ⟨S_, .f32⟩
  | 55 => ⟨S4x256, .f32⟩
  | 56 => ⟨S4x256x1, .f32⟩
  | 57 => ⟨S4x1024x3, .f32⟩
  | 58 => ⟨S_, .f32⟩
  | 59 => ⟨S4x1024, .f32⟩
  | 60 => ⟨S4x1x1024, .f32⟩
  | 61 => ⟨S4x256x1024, .f32⟩
  | 62 => ⟨S4x256x1024, .f32⟩
  | 63 => ⟨S4x256x1024, .f32⟩
  | 64 => ⟨S4x256x1024, .f32⟩
  | 65 => ⟨S_, .f32⟩
  | 66 => ⟨S4x256x1024, .f32⟩
  | 67 => ⟨S4x256x1024, .f32⟩
  | 68 => ⟨S4x256x1024, .f32⟩
  | 69 => ⟨S4x256x1024, .f32⟩
  | 70 => ⟨S4x256x16, .f32⟩
  | 71 => ⟨S4x256x16, .i32⟩
  | 72 => ⟨S4x1024x3, .f32⟩
  | 73 => ⟨S_, .f32⟩
  | 74 => ⟨S4x1024, .f32⟩
  | 75 => ⟨S4x1024x1, .f32⟩
  | 76 => ⟨S4x256x3, .f32⟩
  | 77 => ⟨S_, .f32⟩
  | 78 => ⟨S4x256, .f32⟩
  | 79 => ⟨S4x1x256, .f32⟩
  | 80 => ⟨S4x1024x256, .f32⟩
  | 81 => ⟨S4x1024x256, .f32⟩
  | 82 => ⟨S4x1024x256, .f32⟩
  | 83 => ⟨S4x1024x256, .f32⟩
  | 84 => ⟨S_, .f32⟩
  | 85 => ⟨S4x1024x256, .f32⟩
  | 86 => ⟨S4x1024x256, .f32⟩
  | 87 => ⟨S4x1024x256, .f32⟩
  | 88 => ⟨S4x1024x256, .f32⟩
  | 89 => ⟨S4x1024x16, .f32⟩
  | 90 => ⟨S4x1024x16, .i32⟩
  | 91 => ⟨S4x256x3, .f32⟩
  | 92 => ⟨S_, .f32⟩
  | 93 => ⟨S4x256, .f32⟩
  | 94 => ⟨S4x256x1, .f32⟩
  | 95 => ⟨S4x256x3, .f32⟩
  | 96 => ⟨S_, .f32⟩
  | 97 => ⟨S4x256, .f32⟩
  | 98 => ⟨S4x1x256, .f32⟩
  | 99 => ⟨S4x256x256, .f32⟩
  | 100 => ⟨S4x256x256, .f32⟩
  | 101 => ⟨S4x256x256, .f32⟩
  | 102 => ⟨S4x256x256, .f32⟩
  | 103 => ⟨S_, .f32⟩
  | 104 => ⟨S4x256x256, .f32⟩
  | 105 => ⟨S4x256x256, .f32⟩
  | 106 => ⟨S4x256x256, .f32⟩
  | 107 => ⟨S4x256x256, .f32⟩
  | 108 => ⟨S4x256x16, .f32⟩
  | 109 => ⟨S4x256x16, .i32⟩
  | _ => ⟨S4x4096x3, .f32⟩

abbrev hbmTy (i : Nat) : BufTy := match i / 128 with
  | 0 => hbmTy0_0 i
  | 1 => hbmTy0_1 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_45 : Ref sig .tc := ⟨.hbm, 13, rfl⟩
abbrev main_while0c_v116 : Ref sig .tc := ⟨.hbm, 14, rfl⟩
abbrev main_while0b_v116 : Ref sig .tc := ⟨.hbm, 15, rfl⟩
abbrev main_while0b_call0_c : Ref sig .tc := ⟨.hbm, 16, rfl⟩
abbrev main_while0b_call0_v0 : Ref sig .tc := ⟨.hbm, 17, rfl⟩
abbrev main_while0b_call0_v1 : Ref sig .tc := ⟨.hbm, 18, rfl⟩
abbrev main_while0b_call0_c_0 : Ref sig .tc := ⟨.hbm, 19, rfl⟩
abbrev main_while0b_call0_v2 : Ref sig .tc := ⟨.hbm, 20, rfl⟩
abbrev main_while0b_call0_v3 : Ref sig .tc := ⟨.hbm, 21, rfl⟩
abbrev main_while0b_call0_v4 : Ref sig .tc := ⟨.hbm, 22, rfl⟩
abbrev main_while0b_v117 : Ref sig .tc := ⟨.hbm, 23, rfl⟩
abbrev main_while0b_v118 : Ref sig .tc := ⟨.hbm, 24, rfl⟩
abbrev main_while0b_v119 : Ref sig .tc := ⟨.hbm, 25, rfl⟩
abbrev main_while0b_v120 : Ref sig .tc := ⟨.hbm, 26, rfl⟩
abbrev main_while0b_cst_45 : Ref sig .tc := ⟨.hbm, 27, rfl⟩
abbrev main_while0b_v121 : Ref sig .tc := ⟨.hbm, 28, rfl⟩
abbrev main_while0b_v122 : Ref sig .tc := ⟨.hbm, 29, rfl⟩
abbrev main_while0b_call1_v0 : Ref sig .tc := ⟨.hbm, 30, rfl⟩
abbrev main_while0b_call1_cst : Ref sig .tc := ⟨.hbm, 31, rfl⟩
abbrev main_while0b_call1_c : Ref sig .tc := ⟨.hbm, 32, rfl⟩
abbrev main_while0b_call1_v1_0 : Ref sig .tc := ⟨.hbm, 33, rfl⟩
abbrev main_while0b_v123 : Ref sig .tc := ⟨.hbm, 34, rfl⟩
abbrev main_while0b_call2_v0 : Ref sig .tc := ⟨.hbm, 35, rfl⟩
abbrev main_while0b_call2_c : Ref sig .tc := ⟨.hbm, 36, rfl⟩
abbrev main_while0b_v124 : Ref sig .tc := ⟨.hbm, 37, rfl⟩
abbrev main_while0b_c_46 : Ref sig .tc := ⟨.hbm, 38, rfl⟩
abbrev main_while0b_v125 : Ref sig .tc := ⟨.hbm, 39, rfl⟩
abbrev main_c_2 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v8 : Ref sig .tc := ⟨.hbm, 52, rfl⟩
abbrev main_cst_3 : Ref sig .tc := ⟨.hbm, 53, rfl⟩
abbrev main_v9 : Ref sig .tc := ⟨.hbm, 54, rfl⟩
abbrev main_c_4 : Ref sig .tc := ⟨.hbm, 55, rfl⟩
abbrev main_v10 : Ref sig .tc := ⟨.hbm, 56, rfl⟩
abbrev main_c_5 : Ref sig .tc := ⟨.hbm, 57, rfl⟩
abbrev main_v11 : Ref sig .tc := ⟨.hbm, 58, rfl⟩
abbrev main_c_6 : Ref sig .tc := ⟨.hbm, 59, rfl⟩
abbrev main_v12_0 : Ref sig .tc := ⟨.hbm, 60, rfl⟩
abbrev main_v12_1 : Ref sig .tc := ⟨.hbm, 61, rfl⟩
abbrev main_v12_2 : Ref sig .tc := ⟨.hbm, 62, rfl⟩
abbrev main_v12_3 : Ref sig .tc := ⟨.hbm, 63, rfl⟩
abbrev main_v12_4 : Ref sig .tc := ⟨.hbm, 64, rfl⟩
abbrev main_while1c_c_45 : Ref sig .tc := ⟨.hbm, 65, rfl⟩
abbrev main_while1c_v116 : Ref sig .tc := ⟨.hbm, 66, rfl⟩
abbrev main_while1b_v116 : Ref sig .tc := ⟨.hbm, 67, rfl⟩
abbrev main_while1b_call4_c : Ref sig .tc := ⟨.hbm, 68, rfl⟩
abbrev main_while1b_call4_v0 : Ref sig .tc := ⟨.hbm, 69, rfl⟩
abbrev main_while1b_call4_v1 : Ref sig .tc := ⟨.hbm, 70, rfl⟩
abbrev main_while1b_call4_c_0 : Ref sig .tc := ⟨.hbm, 71, rfl⟩
abbrev main_while1b_call4_v2 : Ref sig .tc := ⟨.hbm, 72, rfl⟩
abbrev main_while1b_call4_v3 : Ref sig .tc := ⟨.hbm, 73, rfl⟩
abbrev main_while1b_call4_v4 : Ref sig .tc := ⟨.hbm, 74, rfl⟩
abbrev main_while1b_v117 : Ref sig .tc := ⟨.hbm, 75, rfl⟩
abbrev main_while1b_v118 : Ref sig .tc := ⟨.hbm, 76, rfl⟩
abbrev main_while1b_v119 : Ref sig .tc := ⟨.hbm, 77, rfl⟩
abbrev main_while1b_v120 : Ref sig .tc := ⟨.hbm, 78, rfl⟩
abbrev main_while1b_cst_45 : Ref sig .tc := ⟨.hbm, 79, rfl⟩
abbrev main_while1b_v121 : Ref sig .tc := ⟨.hbm, 80, rfl⟩
abbrev main_while1b_v122 : Ref sig .tc := ⟨.hbm, 81, rfl⟩
abbrev main_while1b_call5_v0 : Ref sig .tc := ⟨.hbm, 82, rfl⟩
abbrev main_while1b_call5_cst : Ref sig .tc := ⟨.hbm, 83, rfl⟩
abbrev main_while1b_call5_c : Ref sig .tc := ⟨.hbm, 84, rfl⟩
abbrev main_while1b_call5_v1_0 : Ref sig .tc := ⟨.hbm, 85, rfl⟩
abbrev main_while1b_v123 : Ref sig .tc := ⟨.hbm, 86, rfl⟩
abbrev main_while1b_call6_v0 : Ref sig .tc := ⟨.hbm, 87, rfl⟩
abbrev main_while1b_call6_c : Ref sig .tc := ⟨.hbm, 88, rfl⟩
abbrev main_while1b_v124 : Ref sig .tc := ⟨.hbm, 89, rfl⟩
abbrev main_while1b_c_46 : Ref sig .tc := ⟨.hbm, 90, rfl⟩
abbrev main_while1b_v125 : Ref sig .tc := ⟨.hbm, 91, rfl⟩
abbrev main_c_7 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩
abbrev main_v16 : Ref sig .tc := ⟨.hbm, 96, rfl⟩
abbrev main_call7_c : Ref sig .tc := ⟨.hbm, 97, rfl⟩
abbrev main_call7_v0 : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_v17 : Ref sig .tc := ⟨.hbm, 104, rfl⟩
abbrev main_v18 : Ref sig .tc := ⟨.hbm, 105, rfl⟩
abbrev main_cst_8 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_cst_9 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_cst_10 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_values : Ref sig .tc := ⟨.hbm, 122, rfl⟩
abbrev main_indices : Ref sig .tc := ⟨.hbm, 123, rfl⟩
abbrev main_v32 : Ref sig .tc := ⟨.hbm, 124, rfl⟩
abbrev main_cst_11 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_cst_12 : Ref sig .tc := ⟨.hbm, 129, rfl⟩
abbrev main_v36 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_cst_13 : Ref sig .tc := ⟨.hbm, 136, rfl⟩
abbrev main_v42 : Ref sig .tc := ⟨.hbm, 137, rfl⟩
abbrev main_v43 : Ref sig .tc := ⟨.hbm, 138, rfl⟩
abbrev main_v44 : Ref sig .tc := ⟨.hbm, 139, rfl⟩
abbrev main_v45 : Ref sig .tc := ⟨.hbm, 140, rfl⟩
abbrev main_values_14 : Ref sig .tc := ⟨.hbm, 141, rfl⟩
abbrev main_indices_15 : Ref sig .tc := ⟨.hbm, 142, rfl⟩
abbrev main_v46 : Ref sig .tc := ⟨.hbm, 143, rfl⟩
abbrev main_cst_16 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_cst_17 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_cst_18 : Ref sig .tc := ⟨.hbm, 155, rfl⟩
abbrev main_v56 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_values_19 : Ref sig .tc := ⟨.hbm, 160, rfl⟩
abbrev main_indices_20 : Ref sig .tc := ⟨.hbm, 161, rfl⟩
abbrev main_v60 : Ref sig .tc := ⟨.hbm, 162, rfl⟩
abbrev main_cst_21 : Ref sig .tc := ⟨.hbm, 163, rfl⟩
abbrev main_v61 : Ref sig .tc := ⟨.hbm, 164, rfl⟩
abbrev main_v62 : Ref sig .tc := ⟨.hbm, 165, rfl⟩
abbrev main_v63 : Ref sig .tc := ⟨.hbm, 166, rfl⟩
abbrev main_cst_22 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_cst_23 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_values_24 : Ref sig .tc := ⟨.hbm, 179, rfl⟩
abbrev main_indices_25 : Ref sig .tc := ⟨.hbm, 180, rfl⟩
abbrev main_v74 : Ref sig .tc := ⟨.hbm, 181, rfl⟩
abbrev main_cst_26 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_cst_27 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_cst_28 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_values_29 : Ref sig .tc := ⟨.hbm, 198, rfl⟩
abbrev main_indices_30 : Ref sig .tc := ⟨.hbm, 199, rfl⟩
abbrev main_v88 : Ref sig .tc := ⟨.hbm, 200, rfl⟩
abbrev main_cst_31 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_cst_32 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_cst_33 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_values_34 : Ref sig .tc := ⟨.hbm, 217, rfl⟩
abbrev main_indices_35 : Ref sig .tc := ⟨.hbm, 218, rfl⟩
abbrev main_v102 : Ref sig .tc := ⟨.hbm, 219, rfl⟩
abbrev main_cst_36 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_cst_37 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_cst_38 : Ref sig .tc := ⟨.hbm, 231, rfl⟩
abbrev main_v112 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_values_39 : Ref sig .tc := ⟨.hbm, 236, rfl⟩
abbrev main_indices_40 : Ref sig .tc := ⟨.hbm, 237, rfl⟩

abbrev nD : Nat := 1
abbrev τ : Topo := Topo.v7x

variable {F : FTy → Type} [FloatOps F]

abbrev main_while0_count : Scf.Loop 32 := ⟨0#32, 1023#32, 1#32⟩

abbrev main_while1_count : Scf.Loop 32 := ⟨0#32, 255#32, 1#32⟩
-- ==== Proof.First.lean ====
/-
  THE FIRST LEAST POSITION of a row of extended reals, and what a selection makes of it: a maximum's position, the words of
  a kernel's two reductions, a host arg-max's fold, and the rounds "take the first least position, put ∞ there, again",
  which are a stable descending sort's prefix.
-/
module

public import Idealize.ShloMosaic.Lib.SortPrefix
public import Idealize.ShloMosaic.Lib.SortNet.Extract
public import Idealize.ShloMosaic.PureOps.Ideal
public import Idealize.ShloMosaic.PureOps.Ideal.Laws

@[expose] public section

noncomputable section

namespace Cert.First

open Idealize.ShloMosaic

variable {n : ℕ}

/-! ## The first least position -/

/-- `a` is the first of the positions at which `d` is least. -/
def IsFirst (d : Fin n → EReal) (a : Fin n) : Prop := (∀ k, d a ≤ d k) ∧ ∀ k, k < a → d a < d k

/-- Two first least positions are one. -/
theorem IsFirst.unique {d : Fin n → EReal} {a b : Fin n} (ha : IsFirst d a) (hb : IsFirst d b) : a = b := by
  rcases lt_trichotomy a b with h | h | h
  · exact absurd (hb.2 a h) (not_lt.mpr (ha.1 b))
  · exact h
  · exact absurd (ha.2 b h) (not_lt.mpr (hb.1 a))

/-- A row that has a position has a first least one. -/
theorem exists_isFirst [NeZero n] (d : Fin n → EReal) : ∃ a, IsFirst d a := by
  classical
  obtain ⟨b, -, hb⟩ := Finset.exists_min_image (Finset.univ : Finset (Fin n)) d ⟨0, Finset.mem_univ _⟩
  obtain ⟨a, ha, hmin⟩ := Finset.exists_min_image (Finset.univ.filter fun k => d k = d b) id ⟨b, by simp⟩
  have hab : d a = d b := (Finset.mem_filter.mp ha).2
  refine ⟨a, fun k => hab ▸ hb k (Finset.mem_univ k), fun k hk => ?_⟩
  refine lt_of_le_of_ne (hab ▸ hb k (Finset.mem_univ k)) fun e => ?_
  exact absurd (hmin k (Finset.mem_filter.mpr ⟨Finset.mem_univ k, e ▸ hab⟩)) (not_le.mpr hk)

/-- The first least position. -/
def first [NeZero n] (d : Fin n → EReal) : Fin n := (exists_isFirst d).choose

theorem isFirst_first [NeZero n] (d : Fin n → EReal) : IsFirst d (first d) := (exists_isFirst d).choose_spec

theorem IsFirst.eq_first [NeZero n] {d : Fin n → EReal} {a : Fin n} (ha : IsFirst d a) : a = first d :=
  ha.unique (isFirst_first d)

/-! ## The words of two reductions -/

/-- The signed minimum, from the greatest word, of words one of which is the number `a` and the others numbers from `a` on. -/
theorem fold_minsi_eq (a : Fin n) (hn : n < 2 ^ 31) (w : Fin n → BitVec 32) (ha : w a = BitVec.ofNat 32 a.val)
    (hw : ∀ k, ∃ m, w k = BitVec.ofNat 32 m ∧ a.val ≤ m ∧ m ≤ n) :
    Finset.univ.fold IntOp.minsi 2147483647#32 w = BitVec.ofNat 32 a.val := by
  have toInt_nat : ∀ m, m ≤ n → (BitVec.ofNat 32 m).toInt = (m : ℤ) := fun m hm => by
    have h1 : (BitVec.ofNat 32 m).toNat = m := by simp only [BitVec.toNat_ofNat]; omega
    rw [BitVec.toInt_eq_toNat_cond, h1]; split <;> omega
  have hom : (Finset.univ.fold IntOp.minsi 2147483647#32 w).toInt
      = Finset.univ.fold min (2147483647#32 : BitVec 32).toInt fun k => (w k).toInt :=
    (Finset.fold_hom (s := Finset.univ) (op := IntOp.minsi (w := 32)) (op' := min) (m := BitVec.toInt) (b := 2147483647#32) (f := w)
      (fun x y => SortNet.toInt_minsi x y)).symm
  apply BitVec.eq_of_toInt_eq
  rw [hom, toInt_nat a.val a.isLt.le]
  have hb : (2147483647#32 : BitVec 32).toInt = 2147483647 := by decide
  apply le_antisymm
  · rw [Finset.fold_min_le]
    exact Or.inr ⟨a, Finset.mem_univ a, by rw [ha, toInt_nat a.val a.isLt.le]⟩
  · rw [Finset.le_fold_min]
    refine ⟨by rw [hb]; have := a.isLt; omega, fun k _ => ?_⟩
    obtain ⟨m, e, hle, hm⟩ := hw k
    rw [e, toInt_nat m hm]; omega

/-- The minimum of a row over `min` from ∞ is its value at its first least position. -/
theorem fold_min_eq [NeZero n] (d : Fin n → EReal) : Finset.univ.fold min ⊤ d = d (first d) := by
  apply le_antisymm
  · rw [Finset.fold_min_le]; exact Or.inr ⟨_, Finset.mem_univ _, le_rfl⟩
  · rw [Finset.le_fold_min]; exact ⟨le_top, fun k _ => (isFirst_first d).1 k⟩

/-- The maximum of a row over `max` from -∞ is its value at the first position at which it is greatest. -/
theorem fold_max_eq [NeZero n] (d : Fin n → EReal) :
    Finset.univ.fold max ⊥ d = d (first fun k => -d k) := by
  apply le_antisymm
  · rw [Finset.fold_max_le]
    exact ⟨bot_le, fun k _ => EReal.neg_le_neg_iff.mp ((isFirst_first fun k => -d k).1 k)⟩
  · rw [Finset.le_fold_max]; exact Or.inr ⟨_, Finset.mem_univ _, le_rfl⟩

/-- The words a kernel's position reduction takes: the position where the value is the least, the row's length elsewhere.
    Their signed minimum is the first least position. -/
theorem fold_minsi_first [NeZero n] (hn : n < 2 ^ 31) (d : Fin n → EReal) (w : Fin n → BitVec 32)
    (hw : ∀ k, w k = if d k = d (first d) then BitVec.ofNat 32 k.val else BitVec.ofNat 32 n) :
    Finset.univ.fold IntOp.minsi 2147483647#32 w = BitVec.ofNat 32 (first d).val := by
  refine fold_minsi_eq (first d) hn w (by rw [hw, if_pos rfl]) fun k => ?_
  rw [hw k]
  by_cases h : d k = d (first d)
  · rw [if_pos h]
    refine ⟨k.val, rfl, ?_, k.isLt.le⟩
    by_contra hlt
    exact absurd ((isFirst_first d).2 k (not_le.mp hlt)) (by rw [h]; exact lt_irrefl _)
  · rw [if_neg h]
    exact ⟨n, rfl, (first d).isLt.le, le_rfl⟩

/-! ## The fold of a host arg-max -/

/-- One step of an arg-max over (value, position) pairs: the greater value, of equal values the lower position. -/
def argMaxStep (a b : EReal × BitVec 32) : EReal × BitVec 32 :=
  if b.1 < a.1 ∨ (a.1 = b.1 ∧ a.2.toInt < b.2.toInt) then a else b

/-- What a fold of such steps leaves is one of its pairs, and none of them is better. -/
theorem foldl_argMaxStep (l : List (EReal × BitVec 32)) (z : EReal × BitVec 32) :
    (l.foldl argMaxStep z = z ∨ l.foldl argMaxStep z ∈ l)
      ∧ ∀ p, p = z ∨ p ∈ l → p.1 < (l.foldl argMaxStep z).1
          ∨ (p.1 = (l.foldl argMaxStep z).1 ∧ (l.foldl argMaxStep z).2.toInt ≤ p.2.toInt) := by
  induction l generalizing z with
  | nil => exact ⟨Or.inl rfl, fun p hp => by simp only [List.not_mem_nil, or_false] at hp; subst hp; exact Or.inr ⟨rfl, le_rfl⟩⟩
  | cons q l ih =>
    rw [List.foldl_cons]
    obtain ⟨hmem, hbest⟩ := ih (argMaxStep z q)
    have hstep : argMaxStep z q = z ∨ argMaxStep z q = q := by unfold argMaxStep; split <;> simp
    refine ⟨?_, fun p hp => ?_⟩
    · rcases hmem with h | h
      · rcases hstep with e | e
        · exact Or.inl (h.trans e)
        · exact Or.inr (by rw [h, e]; exact List.mem_cons_self)
      · exact Or.inr (List.mem_cons_of_mem _ h)
    · have hz := hbest (argMaxStep z q) (Or.inl rfl)
      have key : ∀ p, (p = z ∨ p = q) → p.1 < (argMaxStep z q).1 ∨ (p.1 = (argMaxStep z q).1 ∧ (argMaxStep z q).2.toInt ≤ p.2.toInt) := by
        intro p hp
        by_cases hc : q.1 < z.1 ∨ (z.1 = q.1 ∧ z.2.toInt < q.2.toInt)
        · have e : argMaxStep z q = z := if_pos hc
          rw [e]
          rcases hp with rfl | rfl
          · exact Or.inr ⟨rfl, le_rfl⟩
          · rcases hc with h | ⟨h, h'⟩
            · exact Or.inl h
            · exact Or.inr ⟨h.symm, h'.le⟩
        · have e : argMaxStep z q = q := if_neg hc
          rw [e]
          push Not at hc
          rcases hp with rfl | rfl
          · rcases lt_or_eq_of_le hc.1 with h | h
            · exact Or.inl h
            · exact Or.inr ⟨h, hc.2 h⟩
          · exact Or.inr ⟨rfl, le_rfl⟩
      have chain : p = z ∨ p = q → p.1 < (l.foldl argMaxStep (argMaxStep z q)).1
          ∨ (p.1 = (l.foldl argMaxStep (argMaxStep z q)).1 ∧ (l.foldl argMaxStep (argMaxStep z q)).2.toInt ≤ p.2.toInt) := by
        intro hp
        rcases key p hp with h | ⟨h, h'⟩ <;> rcases hz with g | ⟨g, g'⟩
        · exact Or.inl (h.trans g)
        · exact Or.inl (g ▸ h)
        · exact Or.inl (h ▸ g)
        · exact Or.inr ⟨h.trans g, g'.trans h'⟩
      rcases hp with h | h
      · exact chain (Or.inl h)
      · rcases List.mem_cons.mp h with h | h
        · exact chain (Or.inr h)
        · exact hbest p (Or.inr h)

/-- The fold over a row's pairs, in whatever order, from (-∞, 0): the position it leaves is the first at which the row is
    greatest. -/
theorem foldl_argMax_eq [NeZero n] (hn : n < 2 ^ 31) (x : Fin n → EReal) (l : List (EReal × BitVec 32))
    (hl : ∀ p, p ∈ l ↔ ∃ k, p = (x k, BitVec.ofNat 32 k.val)) :
    (l.foldl argMaxStep (⊥, 0#32)).2 = BitVec.ofNat 32 (first fun k => -x k).val := by
  have toInt_nat : ∀ m, m < n → (BitVec.ofNat 32 m).toInt = (m : ℤ) := fun m hm => by
    have h1 : (BitVec.ofNat 32 m).toNat = m := by simp only [BitVec.toNat_ofNat]; omega
    rw [BitVec.toInt_eq_toNat_cond, h1]; split <;> omega
  obtain ⟨hmem, hbest⟩ := foldl_argMaxStep l (⊥, 0#32)
  have main : ∃ k, l.foldl argMaxStep (⊥, 0#32) = (x k, BitVec.ofNat 32 k.val) := by
    rcases hmem with h | h
    · refine ⟨0, ?_⟩
      have h0 := hbest (x 0, BitVec.ofNat 32 (0 : Fin n).val) (Or.inr ((hl _).mpr ⟨0, rfl⟩))
      rw [h] at h0 ⊢
      rcases h0 with h0 | ⟨h0, -⟩
      · exact absurd h0 not_lt_bot
      · dsimp only at h0; rw [h0, Fin.val_zero]
    · exact (hl _).mp h
  obtain ⟨k, hk⟩ := main
  rw [hk] at hbest ⊢
  have hfirst : IsFirst (fun k => -x k) k := by
    refine ⟨fun m => ?_, fun m hm => ?_⟩
    · rcases hbest (x m, BitVec.ofNat 32 m.val) (Or.inr ((hl _).mpr ⟨m, rfl⟩)) with h | ⟨h, -⟩
      · exact EReal.neg_le_neg_iff.mpr h.le
      · exact EReal.neg_le_neg_iff.mpr h.le
    · rcases hbest (x m, BitVec.ofNat 32 m.val) (Or.inr ((hl _).mpr ⟨m, rfl⟩)) with h | ⟨-, h⟩
      · exact EReal.neg_lt_neg_iff.mpr h
      · dsimp only at h
        rw [toInt_nat _ k.isLt, toInt_nat _ m.isLt] at h
        have : m.val < k.val := hm
        omega
  rw [← hfirst.eq_first]

/-! ## The rounds -/

/-- The row after `j` rounds: in each the first least position is put to ∞. -/
def row [NeZero n] (d : Fin n → EReal) : ℕ → Fin n → EReal
  | 0 => d
  | j + 1 => Function.update (row d j) (first (row d j)) ⊤

/-- The position round `j` takes. -/
def pick [NeZero n] (d : Fin n → EReal) (j : ℕ) : Fin n := first (row d j)

open Classical in
/-- After `j` rounds a position holds ∞ if one of them took it, and what it held before otherwise. -/
theorem row_apply [NeZero n] (d : Fin n → EReal) (j : ℕ) (k : Fin n) :
    row d j k = if ∃ i, i < j ∧ pick d i = k then ⊤ else d k := by
  induction j with
  | zero => rw [if_neg (by rintro ⟨i, hi, -⟩; omega)]; rfl
  | succ j ih =>
    show Function.update (row d j) (pick d j) ⊤ k = _
    by_cases e : k = pick d j
    · subst e
      rw [Function.update_self, if_pos ⟨j, by omega, rfl⟩]
    · rw [Function.update_of_ne e, ih]
      refine if_congr ⟨?_, ?_⟩ rfl rfl
      · rintro ⟨i, hi, he⟩; exact ⟨i, by omega, he⟩
      · rintro ⟨i, hi, he⟩
        refine ⟨i, ?_, he⟩
        rcases Nat.lt_succ_iff_lt_or_eq.mp hi with h | h
        · exact h
        · subst h; exact absurd he.symm e

theorem row_of_not_picked [NeZero n] (d : Fin n → EReal) (j : ℕ) (k : Fin n) (h : ∀ i, i < j → pick d i ≠ k) :
    row d j k = d k := by
  rw [row_apply, if_neg]; rintro ⟨i, hi, e⟩; exact h i hi e

/-- While there are positions left and every entry is below ∞, a round takes one that none before it took. -/
theorem pick_ne [NeZero n] (d : Fin n → EReal) (hd : ∀ k, d k < ⊤) (j : ℕ) (hj : j < n) (i : ℕ) (hi : i < j) :
    pick d i ≠ pick d j := by
  classical
  intro e
  obtain ⟨k, hk⟩ : ∃ k, ∀ i, i < j → pick d i ≠ k := by
    by_contra hcon
    push Not at hcon
    have hsub : (Finset.univ : Finset (Fin n)) ⊆ (Finset.range j).image (pick d) := fun k _ => by
      obtain ⟨i, hi, he⟩ := hcon k
      exact Finset.mem_image.mpr ⟨i, Finset.mem_range.mpr hi, he⟩
    have := (Finset.card_le_card hsub).trans Finset.card_image_le
    simp only [Finset.card_univ, Fintype.card_fin, Finset.card_range] at this
    omega
  have htop : row d j (pick d j) = ⊤ := by rw [row_apply, if_pos ⟨i, hi, e⟩]
  have hle : row d j (pick d j) ≤ row d j k := (isFirst_first (row d j)).1 k
  rw [htop, row_of_not_picked d j k hk] at hle
  exact absurd (hd k) (not_lt.mpr hle)

/-- Of a position no round up to `j` took before, the position round `j` takes holds no more, and strictly less if it comes
    later. -/
theorem pick_le [NeZero n] (d : Fin n → EReal) (hd : ∀ k, d k < ⊤) (j : ℕ) (hj : j < n) (k : Fin n)
    (hk : ∀ i, i < j → pick d i ≠ k) : d (pick d j) ≤ d k ∧ (k < pick d j → d (pick d j) < d k) := by
  have h := isFirst_first (row d j)
  have e : row d j (pick d j) = d (pick d j) := row_of_not_picked d j _ fun i hi => pick_ne d hd j hj i hi
  have e' : row d j k = d k := row_of_not_picked d j k hk
  constructor
  · have := h.1 k; rwa [e', show first (row d j) = pick d j from rfl, e] at this
  · intro hlt
    have := h.2 k hlt; rwa [e', show first (row d j) = pick d j from rfl, e] at this

/-! ## The rounds are a stable sort's prefix -/

/-- A stable sort of an increasing list of positions does not change when the positions are made to break the ties. -/
theorem stableSort_congr (R B : Fin n → Fin n → Bool) (h : ∀ a b, a < b → R b a = B b a) (l : List (Fin n))
    (hl : l.Pairwise (· < ·)) : stableSort R l = stableSort B l := by
  have ins : ∀ (a : Fin n) (m : List (Fin n)), (∀ b ∈ m, a < b) → insertBefore R a m = insertBefore B a m := by
    intro a m
    induction m with
    | nil => intro _; rfl
    | cons b m ih =>
      intro hm
      simp only [insertBefore]
      rw [h a b (hm b List.mem_cons_self), ih fun c hc => hm c (List.mem_cons_of_mem _ hc)]
  induction l with
  | nil => rfl
  | cons a l ih =>
    rw [List.pairwise_cons] at hl
    simp only [stableSort]
    rw [ih hl.2]
    exact ins a _ fun b hb => hl.1 b ((perm_stableSort B l).mem_iff.mp hb)

/-- THE SORT OF THE NEGATED ROW, greatest first and equal entries in position order: its first `K` positions are what `K`
    rounds take. -/
theorem sortedFrom_eq_pick [NeZero n] {K : ℕ} (hK : K ≤ n) (d : Fin n → EReal) (hd : ∀ k, d k < ⊤)
    (R : Fin n → Fin n → Bool) (hR : ∀ k k', R k k' = decide (d k < d k')) (j : Fin K) :
    sortedFrom R (j.castLE hK) = pick d j.val := by
  let B : Fin n → Fin n → Bool := fun k k' => decide (d k < d k') || (decide (d k = d k') && decide (k < k'))
  have hB : StrictTotalBefore B :=
    StrictTotalBefore.of_key_then_position (fun a b : EReal => decide (a < b)) d (by simp)
      (fun a b c hab hbc => by simp only [decide_eq_true_eq] at *; exact hab.trans hbc)
      (fun a b => by simp only [decide_eq_true_eq]; exact lt_trichotomy a b)
  have hsort : sortedFrom R (j.castLE hK) = sortedFrom B (j.castLE hK) := by
    have e : sortPositions n R = sortPositions n B := by
      refine stableSort_congr R B (fun a b hab => ?_) _ (List.pairwise_lt_finRange n)
      simp only [hR, B]
      rw [decide_eq_false (p := b < a) (not_lt.mpr hab.le), Bool.and_false, Bool.or_false]
    simp only [sortedFrom, List.get_eq_getElem, e]
    rfl
  have hlt : ∀ i : Fin K, i.val < n := fun i => i.isLt.trans_le hK
  have hne : ∀ i j : Fin K, i < j → pick d i.val ≠ pick d j.val := fun i j hij => pick_ne d hd j.val (hlt j) i.val hij
  rw [hsort]
  have notBefore : ∀ (i : Fin K) (p : Fin n), (∀ m, m < i.val → pick d m ≠ p) → B p (pick d i.val) = false := by
    intro i p hp
    obtain ⟨h1, h2⟩ := pick_le d hd i.val (hlt i) p hp
    simp only [B, Bool.or_eq_false_iff, Bool.and_eq_false_iff, decide_eq_false_iff_not]
    refine ⟨not_lt.mpr h1, ?_⟩
    by_cases hpk : p < pick d i.val
    · exact Or.inl (h2 hpk).ne'
    · exact Or.inr hpk
  refine hB.sortedFrom_eq_of_prefix hK (fun i : Fin K => pick d i.val) ?_ ?_ ?_ j
  · intro a b hab
    rcases lt_trichotomy a b with h | h | h
    · exact absurd hab (hne a b h)
    · exact h
    · exact absurd hab.symm (hne b a h)
  · intro a b hab
    exact notBefore a _ fun m hm => hne ⟨m, hm.trans a.isLt⟩ b (show m < b.val from hm.trans hab)
  · intro a p hp
    exact notBefore a p fun m hm => hp ⟨m, hm.trans a.isLt⟩

end Cert.First

end
-- ==== Proof.KnnBlock.lean ====
/-
  ONE BLOCK OF NEAREST NEIGHBOURS as the kernel computes it: `R` query points against `S` support points, the table of squared
  distances, then sixteen rounds "first least position of every row, and ∞ put there". Stated for any `R` and `S`, and read at
  an index: entry (r, j) is the position the `j`-th round takes in row `r`.
-/
module

public import proofs.«01_k».proof.Proof.First
public import Idealize.ShloMosaic.Lib.Pointwise
public import Idealize.ShloMosaic.Lib.ValueLayout
public import Idealize.ShloMosaic.Lib.ValueLayoutCasts
public import Idealize.ShloMosaic.Lib.Pipeline.FrameBody

@[expose] public section

noncomputable section

namespace Cert.Knn

open Idealize.ShloMosaic Cert.First

/-- The squared distance of two points, as the expanded square. -/
def dist (q s : Fin 3 → EReal) : EReal :=
  ((∑ c, q c * q c) + ∑ c, s c * s c) - Ideal.ofBits .f32 0x40000000#32 * ∑ c, q c * s c

variable {R S : ℕ}

/-! ## Layout operations at an index -/

theorem cast_col {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) := by
  rw [ix2_eq_valueIdx, ix1_eq_valueIdx]; exact ValueIdx.shapeCast_a_a1_apply x h i u

theorem cast_lead {α : Type} {a b : ℕ} (x : (⟨2, ![a, b]⟩ : Shape).Idx → α)
    (h : (⟨2, ![a, b]⟩ : Shape).ShapeCasts ⟨3, ![1, a, b]⟩) (u : Fin 1) (i : Fin a) (j : Fin b) :
    shapeCast ⟨3, ![1, a, b]⟩ x h (ix3 u i j) = x (ix2 i j) := by
  rw [ix2_eq_valueIdx, ix3_eq_valueIdx]; exact ValueIdx.shapeCast_ab_1ab_apply x h u i j

theorem cast_drop {α : Type} {a b : ℕ} (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 0 i j) := by
  rw [ix2_eq_valueIdx, ix3_eq_valueIdx]; exact ValueIdx.shapeCast_1ab_ab_apply x h i j

theorem spread_row {α : Type} {a b : ℕ} (v : (⟨2, ![1, b]⟩ : Shape).Idx → α) (h : (⟨2, ![1, b]⟩ : Shape).Broadcasts ⟨2, ![a, b]⟩)
    (p : Fin a) (c : Fin b) : broadcastTo ⟨2, ![a, b]⟩ v h (ix2 p c) = v (ix2 0 c) := by
  rw [ix2_eq_valueIdx, ix2_eq_valueIdx]; exact ValueIdx.broadcastTo_1b_ab_apply v h p c

theorem spread_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p 0) fun ax => ?_
  match ax with
  | ⟨0, _⟩ =>
    show p.val = if a = 1 then 0 else p.val
    split
    · have := p.isLt; omega
    · rfl
  | ⟨1, _⟩ => rfl

/-- The f32 pattern of +∞ denotes ∞. -/
theorem ofBits_inf : Ideal.ofBits .f32 0x7F800000#32 = ⊤ := by simp [Ideal.ofBits, Ideal.ieee]

/-- The shape conditions of a block's operations. -/
structure Sizes (R S : ℕ) : Prop where
  reduces : (⟨2, ![R, S]⟩ : Shape).Reduces [1] ⟨1, ![R]⟩
  column : (⟨1, ![R]⟩ : Shape).ShapeCasts ⟨2, ![R, 1]⟩
  spread : (⟨2, ![R, 1]⟩ : Shape).Broadcasts ⟨2, ![R, S]⟩
  spreadRow : (⟨2, ![1, S]⟩ : Shape).Broadcasts ⟨2, ![R, S]⟩
  positions : (⟨2, ![R, S]⟩ : Shape).Iotas .tc 32 [1]
  stored : (⟨2, ![R, 1]⟩ : Shape).ShapeCasts ⟨3, ![1, R, 1]⟩
  qcol : (⟨3, ![1, R, 1]⟩ : Shape).ShapeCasts ⟨2, ![R, 1]⟩
  srow : (⟨3, ![1, 1, S]⟩ : Shape).ShapeCasts ⟨2, ![1, S]⟩
  qmat : (⟨3, ![1, R, 3]⟩ : Shape).ShapeCasts ⟨2, ![R, 3]⟩
  smat : (⟨3, ![1, 3, S]⟩ : Shape).ShapeCasts ⟨2, ![3, S]⟩
  qin : ∀ c, c < 3 → ∀ a, (![0, 0, c] : Fin 3 → Nat) a + (![1, R, 1] : Fin 3 → Nat) a ≤ (![1, R, 3] : Fin 3 → Nat) a
  sin : ∀ c, c < 3 → ∀ a, (![0, c, 0] : Fin 3 → Nat) a + (![1, 1, S] : Fin 3 → Nat) a ≤ (![1, 3, S] : Fin 3 → Nat) a
  qall : ∀ a, (![0, 0, 0] : Fin 3 → Nat) a + (![1, R, 3] : Fin 3 → Nat) a ≤ (![1, R, 3] : Fin 3 → Nat) a
  sall : ∀ a, (![0, 0, 0] : Fin 3 → Nat) a + (![1, 3, S] : Fin 3 → Nat) a ≤ (![1, 3, S] : Fin 3 → Nat) a
  out : ∀ j : Fin 16, ∀ a, (![0, 0, j.val] : Fin 3 → Nat) a + (![1, R, 1] : Fin 3 → Nat) a ≤ (![1, R, 16] : Fin 3 → Nat) a

namespace Sizes

variable (h : Sizes R S)
include h

/-! ## The operations -/

/-- The least value of every row. -/
def rowMin (d : FVec Ideal ⟨2, ![R, S]⟩ .f32) : FVec Ideal ⟨1, ![R]⟩ .f32 :=
  multiReduction .minimumf [1] ⟨1, ![R]⟩ d 0x7F800000#32 h.reduces (.inl rfl) rfl

/-- The positions where a row holds its least value, and `S` at the others. -/
def argWords (d : FVec Ideal ⟨2, ![R, S]⟩ .f32) : IVec ⟨2, ![R, S]⟩ 32 :=
  select (cmpf .oeq d (broadcastTo ⟨2, ![R, S]⟩ (shapeCast ⟨2, ![R, 1]⟩ (h.rowMin d) h.column) h.spread))
    (iota .tc ⟨2, ![R, S]⟩ 32 [1] h.positions) (broadcast ⟨2, ![R, S]⟩ (BitVec.ofNat 32 S))

/-- The least of a row's words. -/
def rowMinI (w : IVec ⟨2, ![R, S]⟩ 32) : IVec ⟨1, ![R]⟩ 32 :=
  multiReductionI .minsi [1] ⟨1, ![R]⟩ w 2147483647#32 h.reduces rfl

/-- The first least position of every row, as a column of words. -/
def argMin (d : FVec Ideal ⟨2, ![R, S]⟩ .f32) : IVec ⟨2, ![R, 1]⟩ 32 :=
  shapeCast ⟨2, ![R, 1]⟩ (h.rowMinI (h.argWords d)) h.column

/-- ∞ put at every row's first least position. -/
def mask (d : FVec Ideal ⟨2, ![R, S]⟩ .f32) : FVec Ideal ⟨2, ![R, S]⟩ .f32 :=
  select (cmpi .eq (iota .tc ⟨2, ![R, S]⟩ 32 [1] h.positions) (broadcastTo ⟨2, ![R, S]⟩ (h.argMin d) h.spread))
    (broadcast ⟨2, ![R, S]⟩ (Scalar.ofBits .f32 0x7F800000#32)) d

/-- The table after `j` rounds. -/
def masked (d : FVec Ideal ⟨2, ![R, S]⟩ .f32) : ℕ → FVec Ideal ⟨2, ![R, S]⟩ .f32
  | 0 => d
  | j + 1 => h.mask (masked d j)

/-- A sum of three squares, in one of the kernel's two orders. -/
def squares {s : Shape} (fwd : Bool) (a b c : FVec Ideal s .f32) : FVec Ideal s .f32 :=
  match fwd with
  | true => addf (addf (mulf a a) (mulf b b)) (mulf c c)
  | false => addf (addf (mulf a a) (mulf c c)) (mulf b b)

/-- A coordinate of the queries, as a column. -/
def qCol (q : Vec Ideal ⟨3, ![1, R, 3]⟩ .f32) (c : ℕ) (hc : c < 3) : FVec Ideal ⟨2, ![R, 1]⟩ .f32 :=
  shapeCast ⟨2, ![R, 1]⟩ (View.ld q (Rect.unit (s := ⟨3, ![1, R, 3]⟩) ![0, 0, c] ![1, R, 1] (h.qin c hc))) h.qcol

/-- A coordinate of the supports, as a row. -/
def sRow (s : Vec Ideal ⟨3, ![1, 3, S]⟩ .f32) (c : ℕ) (hc : c < 3) : FVec Ideal ⟨2, ![1, S]⟩ .f32 :=
  shapeCast ⟨2, ![1, S]⟩ (View.ld s (Rect.unit (s := ⟨3, ![1, 3, S]⟩) ![0, c, 0] ![1, 1, S] (h.sin c hc))) h.srow

/-- The table of squared distances. -/
def table (qo so : Bool) (q : Vec Ideal ⟨3, ![1, R, 3]⟩ .f32) (s : Vec Ideal ⟨3, ![1, 3, S]⟩ .f32) : FVec Ideal ⟨2, ![R, S]⟩ .f32 :=
  subf
    (addf
      (broadcastTo ⟨2, ![R, S]⟩ (squares qo (h.qCol q 0 (by decide)) (h.qCol q 1 (by decide)) (h.qCol q 2 (by decide))) h.spread)
      (broadcastTo ⟨2, ![R, S]⟩ (squares so (h.sRow s 0 (by decide)) (h.sRow s 1 (by decide)) (h.sRow s 2 (by decide))) h.spreadRow))
    (mulf (broadcast ⟨2, ![R, S]⟩ (Scalar.ofBits .f32 0x40000000#32))
      (matmul (φ₁ := .f32) (φ₂ := .f32) (DotDims.plain R 3 S) none
        (shapeCast ⟨2, ![R, 3]⟩ (View.ld q (Rect.unit (s := ⟨3, ![1, R, 3]⟩) ![0, 0, 0] ![1, R, 3] h.qall)) h.qmat)
        (shapeCast ⟨2, ![3, S]⟩ (View.ld s (Rect.unit (s := ⟨3, ![1, 3, S]⟩) ![0, 0, 0] ![1, 3, S] h.sall)) h.smat)
        (constant ⟨2, ![R, S]⟩ .f32 0x00000000#32)))

/-- The column round `j` stores. -/
def piece (d : FVec Ideal ⟨2, ![R, S]⟩ .f32) (j : Fin 16) : View.Piece (Elt Ideal) ⟨3, ![1, R, 16]⟩ .i32 :=
  ⟨Rect.unit (s := ⟨3, ![1, R, 16]⟩) ![0, 0, j.val] ![1, R, 1] (h.out j),
    shapeCast ⟨3, ![1, R, 1]⟩ (h.argMin (h.masked d j.val)) h.stored⟩

/-- The block's sixteen columns. -/
def block (qo so : Bool) (q : Vec Ideal ⟨3, ![1, R, 3]⟩ .f32) (s : Vec Ideal ⟨3, ![1, 3, S]⟩ .f32) : Vec Ideal ⟨3, ![1, R, 16]⟩ .i32 :=
  View.canon ([15, 14, 13, 12, 11, 10, 9, 8, 7, 6, 5, 4, 3, 2, 1, 0].map (h.piece (h.table qo so q s)))

/-! ## Their values -/

theorem rowMin_apply [NeZero S] (d : FVec Ideal ⟨2, ![R, S]⟩ .f32) (r : Fin R) :
    h.rowMin d (ix1 r) = d (ix2 r (first fun s => d (ix2 r s))) := by
  unfold rowMin
  pointwise
  rw [ofBits_inf]
  exact fold_min_eq fun s => d (ix2 r s)

theorem argWords_apply [NeZero S] (d : FVec Ideal ⟨2, ![R, S]⟩ .f32) (r : Fin R) (s : Fin S) :
    h.argWords d (ix2 r s)
      = if d (ix2 r s) = d (ix2 r (first fun s => d (ix2 r s))) then BitVec.ofNat 32 s.val else BitVec.ofNat 32 S := by
  have e : broadcastTo ⟨2, ![R, S]⟩ (shapeCast ⟨2, ![R, 1]⟩ (h.rowMin d) h.column) h.spread (ix2 r s)
      = d (ix2 r (first fun s => d (ix2 r s))) := by
    rw [spread_col, cast_col, h.rowMin_apply]
  have e' : iota .tc ⟨2, ![R, S]⟩ 32 [1] h.positions (ix2 r s) = BitVec.ofNat 32 s.val := by pointwise
  show Scalar.select (Ideal.cmp .oeq (d (ix2 r s)) (broadcastTo ⟨2, ![R, S]⟩ (shapeCast ⟨2, ![R, 1]⟩ (h.rowMin d) h.column) h.spread (ix2 r s)))
    (iota .tc ⟨2, ![R, S]⟩ 32 [1] h.positions (ix2 r s)) (BitVec.ofNat 32 S) = _
  rw [e, e']
  by_cases hd : d (ix2 r s) = d (ix2 r (first fun s => d (ix2 r s)))
  · rw [if_pos hd]; simp [Scalar.select, Ideal.cmp, ← hd]
  · rw [if_neg hd]; simp [Scalar.select, Ideal.cmp, hd]

theorem argMin_apply [NeZero S] (hS : S < 2 ^ 31) (d : FVec Ideal ⟨2, ![R, S]⟩ .f32) (r : Fin R) (z : Fin 1) :
    h.argMin d (ix2 r z) = BitVec.ofNat 32 (first fun s => d (ix2 r s)).val := by
  unfold argMin
  rw [cast_col]
  unfold rowMinI
  pointwise
  exact fold_minsi_first hS (fun s => d (ix2 r s)) _ fun k => h.argWords_apply d r k

theorem mask_apply [NeZero S] (hS : S < 2 ^ 31) (d : FVec Ideal ⟨2, ![R, S]⟩ .f32) (r : Fin R) (s : Fin S) :
    h.mask d (ix2 r s) = Function.update (fun s => d (ix2 r s)) (first fun s => d (ix2 r s)) ⊤ s := by
  have e : broadcastTo ⟨2, ![R, S]⟩ (h.argMin d) h.spread (ix2 r s) = BitVec.ofNat 32 (first fun s => d (ix2 r s)).val := by
    rw [spread_col, h.argMin_apply hS]
  have e' : iota .tc ⟨2, ![R, S]⟩ 32 [1] h.positions (ix2 r s) = BitVec.ofNat 32 s.val := by pointwise
  show Scalar.select (IntOp.cmpi .eq (iota .tc ⟨2, ![R, S]⟩ 32 [1] h.positions (ix2 r s)) (broadcastTo ⟨2, ![R, S]⟩ (h.argMin d) h.spread (ix2 r s)))
    (Ideal.ofBits .f32 0x7F800000#32) (d (ix2 r s)) = _
  rw [e, e', ofBits_inf]
  by_cases hs : s = first fun s => d (ix2 r s)
  · rw [← hs, Function.update_self]
    simp [Scalar.select, IntOp.cmpi]
  · rw [Function.update_of_ne hs]
    have hne : BitVec.ofNat 32 s.val ≠ BitVec.ofNat 32 (first fun s => d (ix2 r s)).val := fun he => hs (Fin.ext (by
      have h1 := congrArg BitVec.toNat he
      have h2 := s.isLt
      have h3 := (first fun s => d (ix2 r s)).isLt
      simp only [BitVec.toNat_ofNat] at h1
      omega))
    simp [Scalar.select, IntOp.cmpi, beq_eq_false_iff_ne.mpr hne]

theorem masked_apply [NeZero S] (hS : S < 2 ^ 31) (d : FVec Ideal ⟨2, ![R, S]⟩ .f32) (j : ℕ) (r : Fin R) :
    (fun s => h.masked d j (ix2 r s)) = row (fun s => d (ix2 r s)) j := by
  induction j with
  | zero => rfl
  | succ j ih =>
    funext s
    show h.mask (h.masked d j) (ix2 r s) = _
    rw [h.mask_apply hS, ih]
    rfl

theorem table_apply (qo so : Bool) (q : Vec Ideal ⟨3, ![1, R, 3]⟩ .f32) (s : Vec Ideal ⟨3, ![1, 3, S]⟩ .f32) (r : Fin R) (t : Fin S) :
    h.table qo so q s (ix2 r t) = dist (fun c => q (ix3 0 r c)) (fun c => s (ix3 0 c t)) := by
  have hq : ∀ c (hc : c < 3) (u : Fin 1), h.qCol q c hc (ix2 r u) = q (ix3 0 r ⟨c, hc⟩) := fun c hc u => by
    unfold qCol
    rw [cast_drop]
    refine congrArg q (funext fun ax => Fin.ext ?_)
    match ax with
    | ⟨0, _⟩ => rfl
    | ⟨1, _⟩ => show 0 + 1 * r.val = r.val; omega
    | ⟨2, _⟩ => show c + 1 * u.val = c; omega
  have hs : ∀ c (hc : c < 3) (u : Fin 1), h.sRow s c hc (ix2 u t) = s (ix3 0 ⟨c, hc⟩ t) := fun c hc u => by
    unfold sRow
    rw [cast_drop]
    refine congrArg s (funext fun ax => Fin.ext ?_)
    match ax with
    | ⟨0, _⟩ => rfl
    | ⟨1, _⟩ => show c + 1 * u.val = c; omega
    | ⟨2, _⟩ => show 0 + 1 * t.val = t.val; omega
  have hsq : ∀ {sh : Shape} (b : Bool) (x y z : FVec Ideal sh .f32) (i : sh.Idx),
      squares b x y z i = x i * x i + y i * y i + z i * z i := fun b x y z i => by
    cases b
    · exact add_right_comm (x i * x i) (z i * z i) (y i * y i)
    · rfl
  have hm : (matmul (F := Ideal) (φ₁ := .f32) (φ₂ := .f32) (DotDims.plain R 3 S) none
        (shapeCast ⟨2, ![R, 3]⟩ (View.ld q (Rect.unit (s := ⟨3, ![1, R, 3]⟩) ![0, 0, 0] ![1, R, 3] h.qall)) h.qmat)
        (shapeCast ⟨2, ![3, S]⟩ (View.ld s (Rect.unit (s := ⟨3, ![1, 3, S]⟩) ![0, 0, 0] ![1, 3, S] h.sall)) h.smat)
        (constant ⟨2, ![R, S]⟩ .f32 0x00000000#32) : FVec Ideal ⟨2, ![R, S]⟩ .f32) (ix2 r t)
      = ∑ c : Fin 3, q (ix3 0 r c) * s (ix3 0 c t) := by
    have e1 : shapeCast ⟨2, ![R, 3]⟩ (View.ld q (Rect.unit (s := ⟨3, ![1, R, 3]⟩) ![0, 0, 0] ![1, R, 3] h.qall)) h.qmat
        = fun i => q (ix3 0 (i 0) (i 1)) := funext fun i => by
      obtain ⟨a, b, rfl⟩ : ∃ a b, i = ix2 a b := ⟨_, _, eq_ix2 i⟩
      rw [cast_drop]
      refine congrArg q (funext fun ax => Fin.ext ?_)
      match ax with
      | ⟨0, _⟩ => rfl
      | ⟨1, _⟩ => show 0 + 1 * a.val = a.val; omega
      | ⟨2, _⟩ => show 0 + 1 * b.val = b.val; omega
    have e2 : shapeCast ⟨2, ![3, S]⟩ (View.ld s (Rect.unit (s := ⟨3, ![1, 3, S]⟩) ![0, 0, 0] ![1, 3, S] h.sall)) h.smat
        = fun i => s (ix3 0 (i 0) (i 1)) := funext fun i => by
      obtain ⟨a, b, rfl⟩ : ∃ a b, i = ix2 a b := ⟨_, _, eq_ix2 i⟩
      rw [cast_drop]
      refine congrArg s (funext fun ax => Fin.ext ?_)
      match ax with
      | ⟨0, _⟩ => rfl
      | ⟨1, _⟩ => show 0 + 1 * a.val = a.val; omega
      | ⟨2, _⟩ => show 0 + 1 * b.val = b.val; omega
    rw [e1, e2]
    pointwise [DotDims.plain]
    rfl
  show (broadcastTo ⟨2, ![R, S]⟩ _ h.spread (ix2 r t) + broadcastTo ⟨2, ![R, S]⟩ _ h.spreadRow (ix2 r t))
    - Ideal.ofBits .f32 0x40000000#32 * _ = _
  rw [hm, spread_col, spread_row, hsq, hsq, hq, hq, hq, hs, hs, hs]
  unfold dist
  rw [Fin.sum_univ_three, Fin.sum_univ_three, Fin.sum_univ_three]
  rfl

/-- THE BLOCK AT AN INDEX: round `j`'s position in the row of distances from query `r` to the supports. -/
theorem block_apply [NeZero S] (hS : S < 2 ^ 31) (qo so : Bool) (q : Vec Ideal ⟨3, ![1, R, 3]⟩ .f32)
    (s : Vec Ideal ⟨3, ![1, 3, S]⟩ .f32) (r : Fin R) (j : Fin 16) :
    h.block qo so q s (ix3 0 r j)
      = BitVec.ofNat 32 (pick (fun t => dist (fun c => q (ix3 0 r c)) (fun c => s (ix3 0 c t))) j.val).val := by
  have hd : (fun t => dist (fun c => q (ix3 0 r c)) (fun c => s (ix3 0 c t))) = fun t => h.table qo so q s (ix2 r t) :=
    funext fun t => (h.table_apply qo so q s r t).symm
  have hall : ∀ j : Fin 16, j ∈ ([15, 14, 13, 12, 11, 10, 9, 8, 7, 6, 5, 4, 3, 2, 1, 0] : List (Fin 16)) := by decide
  rw [hd]
  unfold block
  generalize h.table qo so q s = d
  rw [View.canon_apply_of_pieces (fun y : (⟨3, ![1, R, 16]⟩ : Shape).Idx =>
    BitVec.ofNat 32 (pick (fun t => d (ix2 (y 1) t)) (y 2).val).val)]
  · rfl
  · intro p hp x
    obtain ⟨j', -, rfl⟩ := List.mem_map.mp hp
    obtain ⟨u, r', z, rfl⟩ : ∃ (u : Fin 1) (r' : Fin R) (z : Fin 1), x = ix3 u r' z := ⟨_, _, _, eq_ix3 x⟩
    have hr : (h.piece d j').1.emb (ix3 u r' z) = ix3 0 r' j' := funext fun ax => Fin.ext (by
      match ax with
      | ⟨0, _⟩ => show 0 + 1 * u.val = 0; omega
      | ⟨1, _⟩ => show 0 + 1 * r'.val = r'.val; omega
      | ⟨2, _⟩ => show j'.val + 1 * z.val = j'.val; omega)
    have hv : shapeCast ⟨3, ![1, R, 1]⟩ (h.argMin (h.masked d j'.val)) h.stored (ix3 u r' z)
        = BitVec.ofNat 32 (pick (fun t => d (ix2 r' t)) j'.val).val := by
      rw [cast_lead, h.argMin_apply hS, h.masked_apply hS]
      rfl
    exact hv.trans (congrArg (fun y : (⟨3, ![1, R, 16]⟩ : Shape).Idx =>
      BitVec.ofNat 32 (pick (fun t => d (ix2 (y 1) t)) (y 2).val).val) hr.symm)
  · refine ⟨h.piece d j, List.mem_map.mpr ⟨j, hall j, rfl⟩, ?_⟩
    have hr : (h.piece d j).1.emb (ix3 0 r 0) = ix3 0 r j := funext fun ax => Fin.ext (by
      match ax with
      | ⟨0, _⟩ => rfl
      | ⟨1, _⟩ => show 0 + 1 * r.val = r.val; omega
      | ⟨2, _⟩ => show j.val + 1 * 0 = j.val; omega)
    rw [← hr]
    exact (h.piece d j).1.idx_mem _

end Sizes

/-! ## The whole result -/

/-- The neighbours of four clouds' queries `q` among their supports `s` (given by coordinate rows): entry (b, n, j) is the
    `j`-th nearest support's position. -/
def near {Q : ℕ} [NeZero S] (q : Vec Ideal ⟨3, ![4, Q, 3]⟩ .f32) (s : Vec Ideal ⟨3, ![4, 3, S]⟩ .f32) : Vec Ideal ⟨3, ![4, Q, 16]⟩ .i32 :=
  fun i => BitVec.ofNat 32 (pick (fun t => dist (fun c => q (ix3 (i 0) (i 1) c)) (fun c => s (ix3 (i 0) c t))) (i 2).val).val

/-- A block of queries and its cloud's supports give `near` where they lie in the arrays. -/
theorem Sizes.block_near {Q : ℕ} [NeZero S] (h : Sizes R S) (hS : S < 2 ^ 31) (qo so : Bool)
    (xq : Vec Ideal ⟨3, ![1, R, 3]⟩ .f32) (xs : Vec Ideal ⟨3, ![1, 3, S]⟩ .f32)
    (q : Vec Ideal ⟨3, ![4, Q, 3]⟩ .f32) (s : Vec Ideal ⟨3, ![4, 3, S]⟩ .f32)
    (y : (⟨3, ![1, R, 16]⟩ : Shape).Idx) (i : (⟨3, ![4, Q, 16]⟩ : Shape).Idx)
    (hq : ∀ c, xq (ix3 0 (y 1) c) = q (ix3 (i 0) (i 1) c)) (hs : ∀ c t, xs (ix3 0 c t) = s (ix3 (i 0) c t))
    (hj : (y 2).val = (i 2).val) : h.block qo so xq xs y = near q s i := by
  obtain ⟨u, r, j, rfl⟩ : ∃ (u : Fin 1) (r : Fin R) (j : Fin 16), y = ix3 u r j := ⟨_, _, _, eq_ix3 y⟩
  obtain rfl : u = 0 := Subsingleton.elim _ _
  rw [h.block_apply hS]
  unfold near
  rw [← hj]
  simp only [← hs, ← hq]
  rfl

end Cert.Knn

end
-- ==== Proof.Fps.lean ====
/-
  FARTHEST POINT SAMPLING. The mathematics: keep every point's least squared distance to the points chosen so far; the next
  point chosen is the first of those for which that distance is greatest. Then the kernel's turn of four clouds at once, for any
  cloud size `N`, read at an index: the turn carries exactly that state.
-/
module

public import proofs.«01_k».proof.Proof.KnnBlock

@[expose] public section

noncomputable section

namespace Cert.Fps

open Idealize.ShloMosaic Cert.First Cert.Knn

variable {N : ℕ}

/-! ## The mathematics -/

/-- The squared distance of two points, as a sum of squared differences. -/
def gap (p q : Fin 3 → EReal) : EReal := ∑ c, (p c - q c) * (p c - q c)

/-- One turn of the sampling: the distances are taken down by the last chosen point, then the farthest point is chosen. -/
def step [NeZero N] (P : Fin N → Fin 3 → EReal) (s : (Fin N → EReal) × Fin N) : (Fin N → EReal) × Fin N :=
  (fun k => min (s.1 k) (gap (P k) (P s.2)), first fun k => -min (s.1 k) (gap (P k) (P s.2)))

/-- The distances and the last chosen point after `k` turns: at first all 1e10, and point 0. -/
def state [NeZero N] (P : Fin N → Fin 3 → EReal) : ℕ → (Fin N → EReal) × Fin N
  | 0 => (fun _ => Ideal.ofBits .f32 0x501502F9#32, 0)
  | k + 1 => step P (state P k)

/-- The `k`-th chosen point. -/
def chosen [NeZero N] (P : Fin N → Fin 3 → EReal) (k : ℕ) : Fin N := (state P k).2

/-- Cloud `b` of four clouds given by coordinate rows. -/
def cloud (s : Vec Ideal ⟨3, ![4, 3, N]⟩ .f32) (b : Fin 4) (k : Fin N) (c : Fin 3) : EReal := s (ix3 b c k)

/-- The first `M` chosen points of each of four clouds (given by coordinate rows). -/
def fps [NeZero N] (M : ℕ) (s : Vec Ideal ⟨3, ![4, 3, N]⟩ .f32) : Vec Ideal ⟨3, ![4, M, 3]⟩ .f32 :=
  fun i => cloud s (i 0) (chosen (cloud s (i 0)) (i 1).val) (i 2)

/-! ## The kernel's turn -/

/-- The f32 pattern of -∞ denotes -∞. -/
theorem ofBits_neg_inf : Ideal.ofBits .f32 0xFF800000#32 = ⊥ := by simp [Ideal.ofBits, Ideal.ieee]

/-- A plane of a one-row stack is the row's. -/
theorem cast_middle {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i 0 j) := by
  refine shapeCast_apply x h (ix2 i j) (ix3 i 0 j) ?_
  rw [Shape.rowMajor_val_three, Shape.rowMajor_val_two]
  show (i.val * 1 + 0) * b + j.val = i.val * b + j.val
  rw [Nat.mul_one, Nat.add_zero]

/-- The shape conditions of a turn's operations. -/
structure Sizes (N : ℕ) : Prop where
  reduces : (⟨2, ![4, N]⟩ : Shape).Reduces [1] ⟨1, ![4]⟩
  column : (⟨1, ![4]⟩ : Shape).ShapeCasts ⟨2, ![4, 1]⟩
  spread : (⟨2, ![4, 1]⟩ : Shape).Broadcasts ⟨2, ![4, N]⟩
  positions : (⟨2, ![4, N]⟩ : Shape).Iotas .tc 32 [1]
  plane : (⟨3, ![4, 1, N]⟩ : Shape).ShapeCasts ⟨2, ![4, N]⟩
  start : (⟨2, ![4, N]⟩ : Shape).Slices ![0, 0] ⟨2, ![4, 1]⟩
  cell : (⟨2, ![4, 1]⟩ : Shape).ShapeCasts ⟨3, ![4, 1, 1]⟩
  three : Shape.Concatenates [⟨3, ![4, 1, 1]⟩, ⟨3, ![4, 1, 1]⟩, ⟨3, ![4, 1, 1]⟩] ⟨3, ![4, 1, 3]⟩ 2
  rows : ∀ c, c < 3 → ∀ a, (![0, c, 0] : Fin 3 → Nat) a + (![4, 1, N] : Fin 3 → Nat) a ≤ (![4, 3, N] : Fin 3 → Nat) a

/-- What a turn hands to the next: the least distances, and the last chosen point's coordinates. -/
abbrev Carried (N : ℕ) : Type :=
  FVec Ideal ⟨2, ![4, N]⟩ .f32 × FVec Ideal ⟨2, ![4, 1]⟩ .f32 × FVec Ideal ⟨2, ![4, 1]⟩ .f32 × FVec Ideal ⟨2, ![4, 1]⟩ .f32

namespace Sizes

variable (h : Sizes N)
include h

/-- A coordinate's row of every cloud, as the kernel loads it. -/
def rowAt (s : Vec Ideal ⟨3, ![4, 3, N]⟩ .f32) (c : ℕ) (hc : c < 3) : Vec Ideal ⟨3, ![4, 1, N]⟩ .f32 :=
  View.ld s (Rect.unit (s := ⟨3, ![4, 3, N]⟩) ![0, c, 0] ![4, 1, N] (h.rows c hc))

/-- The plane of one coordinate. -/
def coord (v : Vec Ideal ⟨3, ![4, 1, N]⟩ .f32) : FVec Ideal ⟨2, ![4, N]⟩ .f32 := shapeCast ⟨2, ![4, N]⟩ v h.plane

/-- The differences of a coordinate from the last chosen point's. -/
def diff (v : Vec Ideal ⟨3, ![4, 1, N]⟩ .f32) (l : FVec Ideal ⟨2, ![4, 1]⟩ .f32) : FVec Ideal ⟨2, ![4, N]⟩ .f32 :=
  subf (h.coord v) (broadcastTo ⟨2, ![4, N]⟩ l h.spread)

/-- The least distances, taken down by the last chosen point. -/
def nearest (x y z : Vec Ideal ⟨3, ![4, 1, N]⟩ .f32) (a : Carried N) : FVec Ideal ⟨2, ![4, N]⟩ .f32 :=
  minimumf a.1 (addf (addf (mulf (h.diff x a.2.1) (h.diff x a.2.1)) (mulf (h.diff z a.2.2.2) (h.diff z a.2.2.2)))
    (mulf (h.diff y a.2.2.1) (h.diff y a.2.2.1)))

/-- The greatest value of every row. -/
def rowMax (d : FVec Ideal ⟨2, ![4, N]⟩ .f32) : FVec Ideal ⟨1, ![4]⟩ .f32 :=
  multiReduction .maximumf [1] ⟨1, ![4]⟩ d 0xFF800000#32 h.reduces (.inl rfl) rfl

/-- The positions where a row holds its greatest value, and `N` at the others. -/
def farWords (d : FVec Ideal ⟨2, ![4, N]⟩ .f32) : IVec ⟨2, ![4, N]⟩ 32 :=
  select (cmpf .oeq d (broadcastTo ⟨2, ![4, N]⟩ (shapeCast ⟨2, ![4, 1]⟩ (h.rowMax d) h.column) h.spread))
    (iota .tc ⟨2, ![4, N]⟩ 32 [1] h.positions) (broadcast ⟨2, ![4, N]⟩ (BitVec.ofNat 32 N))

/-- The least of every row's words. -/
def rowMinI (w : IVec ⟨2, ![4, N]⟩ 32) : IVec ⟨1, ![4]⟩ 32 :=
  multiReductionI .minsi [1] ⟨1, ![4]⟩ w 2147483647#32 h.reduces rfl

/-- The mark of every row's first greatest position. -/
def mark (d : FVec Ideal ⟨2, ![4, N]⟩ .f32) : IVec ⟨2, ![4, N]⟩ 1 :=
  cmpi .eq (iota .tc ⟨2, ![4, N]⟩ 32 [1] h.positions)
    (broadcastTo ⟨2, ![4, N]⟩ (shapeCast ⟨2, ![4, 1]⟩ (h.rowMinI (h.farWords d)) h.column) h.spread)

/-- A plane's values at the marks, and 0 at the others. -/
def marked (w : IVec ⟨2, ![4, N]⟩ 1) (v : Vec Ideal ⟨3, ![4, 1, N]⟩ .f32) : FVec Ideal ⟨2, ![4, N]⟩ .f32 :=
  select w (h.coord v) (broadcast ⟨2, ![4, N]⟩ (Scalar.ofBits .f32 0x00000000#32))

/-- The sum of every row. -/
def rowSum (d : FVec Ideal ⟨2, ![4, N]⟩ .f32) : FVec Ideal ⟨1, ![4]⟩ .f32 :=
  multiReduction .add [1] ⟨1, ![4]⟩ d 0x00000000#32 h.reduces (.inl rfl) rfl

/-- A coordinate of the newly chosen point. -/
def taken (w : IVec ⟨2, ![4, N]⟩ 1) (v : Vec Ideal ⟨3, ![4, 1, N]⟩ .f32) : FVec Ideal ⟨2, ![4, 1]⟩ .f32 :=
  shapeCast ⟨2, ![4, 1]⟩ (h.rowSum (h.marked w v)) h.column

/-- One turn. -/
def turn (x y z : Vec Ideal ⟨3, ![4, 1, N]⟩ .f32) (a : Carried N) : Carried N :=
  (h.nearest x y z a, h.taken (h.mark (h.nearest x y z a)) x, h.taken (h.mark (h.nearest x y z a)) y,
    h.taken (h.mark (h.nearest x y z a)) z)

/-- The first of a coordinate's row. -/
def head (v : Vec Ideal ⟨3, ![4, 1, N]⟩ .f32) : FVec Ideal ⟨2, ![4, 1]⟩ .f32 :=
  extractStridedSlice ⟨2, ![4, 1]⟩ ![0, 0] (h.coord v) h.start

/-- What the first turn finds. -/
def init (x y z : Vec Ideal ⟨3, ![4, 1, N]⟩ .f32) : Carried N :=
  (broadcast ⟨2, ![4, N]⟩ (Scalar.ofBits .f32 0x501502F9#32), h.head x, h.head y, h.head z)

/-- The row stored for a chosen point. -/
def rowOf (a : Carried N) : FVec Ideal ⟨3, ![4, 1, 3]⟩ .f32 :=
  concatenate ⟨3, ![4, 1, 3]⟩ 2 [⟨⟨3, ![4, 1, 1]⟩, shapeCast ⟨3, ![4, 1, 1]⟩ a.2.1 h.cell⟩,
    ⟨⟨3, ![4, 1, 1]⟩, shapeCast ⟨3, ![4, 1, 1]⟩ a.2.2.1 h.cell⟩, ⟨⟨3, ![4, 1, 1]⟩, shapeCast ⟨3, ![4, 1, 1]⟩ a.2.2.2 h.cell⟩] h.three

/-! ## Their values -/

theorem coord_apply (s : Vec Ideal ⟨3, ![4, 3, N]⟩ .f32) (c : ℕ) (hc : c < 3) (b : Fin 4) (k : Fin N) :
    h.coord (h.rowAt s c hc) (ix2 b k) = cloud s b k ⟨c, hc⟩ := by
  unfold coord
  rw [cast_middle]
  refine congrArg s (funext fun ax => Fin.ext ?_)
  match ax with
  | ⟨0, _⟩ => show 0 + 1 * b.val = b.val; omega
  | ⟨1, _⟩ => show c + 1 * 0 = c; omega
  | ⟨2, _⟩ => show 0 + 1 * k.val = k.val; omega

theorem diff_apply (s : Vec Ideal ⟨3, ![4, 3, N]⟩ .f32) (c : ℕ) (hc : c < 3) (l : FVec Ideal ⟨2, ![4, 1]⟩ .f32) (b : Fin 4)
    (k : Fin N) : h.diff (h.rowAt s c hc) l (ix2 b k) = cloud s b k ⟨c, hc⟩ - l (ix2 b 0) := by
  show h.coord (h.rowAt s c hc) (ix2 b k) - broadcastTo ⟨2, ![4, N]⟩ l h.spread (ix2 b k) = _
  rw [h.coord_apply, spread_col]

theorem rowMax_apply [NeZero N] (d : FVec Ideal ⟨2, ![4, N]⟩ .f32) (b : Fin 4) :
    h.rowMax d (ix1 b) = d (ix2 b (first fun k => -d (ix2 b k))) := by
  unfold rowMax
  pointwise
  rw [ofBits_neg_inf]
  exact fold_max_eq fun k => d (ix2 b k)

theorem farWords_apply [NeZero N] (d : FVec Ideal ⟨2, ![4, N]⟩ .f32) (b : Fin 4) (k : Fin N) :
    h.farWords d (ix2 b k)
      = if -d (ix2 b k) = -d (ix2 b (first fun k => -d (ix2 b k))) then BitVec.ofNat 32 k.val else BitVec.ofNat 32 N := by
  have e : broadcastTo ⟨2, ![4, N]⟩ (shapeCast ⟨2, ![4, 1]⟩ (h.rowMax d) h.column) h.spread (ix2 b k)
      = d (ix2 b (first fun k => -d (ix2 b k))) := by
    rw [spread_col, cast_col, h.rowMax_apply]
  have e' : iota .tc ⟨2, ![4, N]⟩ 32 [1] h.positions (ix2 b k) = BitVec.ofNat 32 k.val := by pointwise
  show Scalar.select (Ideal.cmp .oeq (d (ix2 b k)) (broadcastTo ⟨2, ![4, N]⟩ (shapeCast ⟨2, ![4, 1]⟩ (h.rowMax d) h.column) h.spread (ix2 b k)))
    (iota .tc ⟨2, ![4, N]⟩ 32 [1] h.positions (ix2 b k)) (BitVec.ofNat 32 N) = _
  rw [e, e']
  by_cases hd : d (ix2 b k) = d (ix2 b (first fun k => -d (ix2 b k)))
  · rw [if_pos (congrArg Neg.neg hd)]; simp [Scalar.select, Ideal.cmp, ← hd]
  · rw [if_neg fun hn => hd (neg_injective hn)]; simp [Scalar.select, Ideal.cmp, hd]

theorem rowMinI_apply [NeZero N] (hN : N < 2 ^ 31) (d : FVec Ideal ⟨2, ![4, N]⟩ .f32) (b : Fin 4) :
    h.rowMinI (h.farWords d) (ix1 b) = BitVec.ofNat 32 (first fun k => -d (ix2 b k)).val := by
  unfold rowMinI
  pointwise
  exact fold_minsi_first hN (fun k => -d (ix2 b k)) _ fun k => h.farWords_apply d b k

theorem mark_apply [NeZero N] (hN : N < 2 ^ 31) (d : FVec Ideal ⟨2, ![4, N]⟩ .f32) (b : Fin 4) (k : Fin N) :
    h.mark d (ix2 b k) = if k = first fun k => -d (ix2 b k) then 1#1 else 0#1 := by
  have e : broadcastTo ⟨2, ![4, N]⟩ (shapeCast ⟨2, ![4, 1]⟩ (h.rowMinI (h.farWords d)) h.column) h.spread (ix2 b k)
      = BitVec.ofNat 32 (first fun k => -d (ix2 b k)).val := by
    rw [spread_col, cast_col, h.rowMinI_apply hN]
  have e' : iota .tc ⟨2, ![4, N]⟩ 32 [1] h.positions (ix2 b k) = BitVec.ofNat 32 k.val := by pointwise
  show IntOp.cmpi .eq (iota .tc ⟨2, ![4, N]⟩ 32 [1] h.positions (ix2 b k))
    (broadcastTo ⟨2, ![4, N]⟩ (shapeCast ⟨2, ![4, 1]⟩ (h.rowMinI (h.farWords d)) h.column) h.spread (ix2 b k)) = _
  rw [e, e']
  by_cases hk : k = first fun k => -d (ix2 b k)
  · rw [if_pos hk, ← hk]; simp [IntOp.cmpi]
  · rw [if_neg hk]
    have hne : BitVec.ofNat 32 k.val ≠ BitVec.ofNat 32 (first fun k => -d (ix2 b k)).val := fun he => hk (Fin.ext (by
      have h1 := congrArg BitVec.toNat he
      have h2 := k.isLt
      have h3 := (first fun k => -d (ix2 b k)).isLt
      simp only [BitVec.toNat_ofNat] at h1
      omega))
    simp [IntOp.cmpi, beq_eq_false_iff_ne.mpr hne]

theorem taken_apply [NeZero N] (s : Vec Ideal ⟨3, ![4, 3, N]⟩ .f32) (c : ℕ) (hc : c < 3) (w : IVec ⟨2, ![4, N]⟩ 1) (b : Fin 4)
    (u : Fin 1) (a : Fin N) (hw : ∀ k, w (ix2 b k) = if k = a then 1#1 else 0#1) :
    h.taken w (h.rowAt s c hc) (ix2 b u) = cloud s b a ⟨c, hc⟩ := by
  have e : ∀ k, h.marked w (h.rowAt s c hc) (ix2 b k) = if k = a then cloud s b k ⟨c, hc⟩ else 0 := fun k => by
    show Scalar.select (w (ix2 b k)) (h.coord (h.rowAt s c hc) (ix2 b k)) (Ideal.ofBits .f32 0x00000000#32) = _
    rw [hw, h.coord_apply]
    by_cases hk : k = a
    · rw [if_pos hk, if_pos hk]; rfl
    · rw [if_neg hk, if_neg hk]; simp [Scalar.select, Ideal.ofBits, Ideal.ieee]
  unfold taken
  rw [cast_col]
  unfold rowSum
  generalize h.marked w (h.rowAt s c hc) = d at e
  pointwise
  simp only [e, Finset.sum_ite_eq', Finset.mem_univ, if_true]

theorem rowOf_apply (a : Carried N) (b : Fin 4) (u : Fin 1) (c : Fin 3) :
    h.rowOf a (ix3 b u c) = (![a.2.1 (ix2 b 0), a.2.2.1 (ix2 b 0), a.2.2.2 (ix2 b 0)] : Fin 3 → EReal) c := by
  obtain rfl : u = 0 := Subsingleton.elim _ _
  unfold rowOf
  fin_cases c <;> (pointwise <;> rfl)

/-! ## The turns follow the sampling -/

/-- The carried values are the sampling's state after `k` turns. -/
def Holds [NeZero N] (s : Vec Ideal ⟨3, ![4, 3, N]⟩ .f32) (k : ℕ) (a : Carried N) : Prop :=
  ∀ b : Fin 4, (∀ t, a.1 (ix2 b t) = (state (cloud s b) k).1 t)
    ∧ (∀ u, a.2.1 (ix2 b u) = cloud s b (chosen (cloud s b) k) 0)
    ∧ (∀ u, a.2.2.1 (ix2 b u) = cloud s b (chosen (cloud s b) k) 1)
    ∧ ∀ u, a.2.2.2 (ix2 b u) = cloud s b (chosen (cloud s b) k) 2

theorem holds_init [NeZero N] (s : Vec Ideal ⟨3, ![4, 3, N]⟩ .f32) :
    Holds s 0 (h.init (h.rowAt s 0 (by decide)) (h.rowAt s 1 (by decide)) (h.rowAt s 2 (by decide))) := by
  have e : ∀ c (hc : c < 3) (b : Fin 4) (u : Fin 1), h.head (h.rowAt s c hc) (ix2 b u) = cloud s b 0 ⟨c, hc⟩ := fun c hc b u => by
    rw [← h.coord_apply]
    refine extractStridedSlice_apply _ _ _ _ _ fun ax => ?_
    match ax with
    | ⟨0, _⟩ => show b.val = 0 + b.val; omega
    | ⟨1, _⟩ => show (0 : Fin N).val = 0 + u.val; rw [Fin.val_zero]; omega
  exact fun b => ⟨fun t => rfl, fun u => e 0 _ b u, fun u => e 1 _ b u, fun u => e 2 _ b u⟩

theorem holds_turn [NeZero N] (hN : N < 2 ^ 31) (s : Vec Ideal ⟨3, ![4, 3, N]⟩ .f32) (k : ℕ) (a : Carried N) (ha : Holds s k a) :
    Holds s (k + 1) (h.turn (h.rowAt s 0 (by decide)) (h.rowAt s 1 (by decide)) (h.rowAt s 2 (by decide)) a) := by
  intro b
  obtain ⟨hm, hx, hy, hz⟩ := ha b
  have hd : ∀ t, h.nearest (h.rowAt s 0 (by decide)) (h.rowAt s 1 (by decide)) (h.rowAt s 2 (by decide)) a (ix2 b t)
      = (state (cloud s b) (k + 1)).1 t := fun t => by
    show min (a.1 (ix2 b t)) (h.diff _ a.2.1 (ix2 b t) * h.diff _ a.2.1 (ix2 b t)
      + h.diff _ a.2.2.2 (ix2 b t) * h.diff _ a.2.2.2 (ix2 b t) + h.diff _ a.2.2.1 (ix2 b t) * h.diff _ a.2.2.1 (ix2 b t)) = _
    rw [h.diff_apply, h.diff_apply, h.diff_apply, hm, hx, hy, hz, add_right_comm]
    show _ = min _ (gap _ _)
    unfold gap
    rw [Fin.sum_univ_three]
    rfl
  have hw := h.mark_apply hN (h.nearest (h.rowAt s 0 (by decide)) (h.rowAt s 1 (by decide)) (h.rowAt s 2 (by decide)) a) b
  simp only [hd] at hw
  exact ⟨hd, fun u => h.taken_apply s 0 _ _ b u _ hw, fun u => h.taken_apply s 1 _ _ b u _ hw, fun u => h.taken_apply s 2 _ _ b u _ hw⟩

theorem rowOf_holds [NeZero N] (s : Vec Ideal ⟨3, ![4, 3, N]⟩ .f32) (k : ℕ) (a : Carried N) (ha : Holds s k a) (b : Fin 4)
    (u : Fin 1) (c : Fin 3) : h.rowOf a (ix3 b u c) = cloud s b (chosen (cloud s b) k) c := by
  obtain ⟨-, hx, hy, hz⟩ := ha b
  rw [h.rowOf_apply, hx, hy, hz]
  fin_cases c <;> rfl

/-- The row stored at position `j` from the state after `j` turns is that row of the sampled clouds. -/
theorem stored_row [NeZero N] {M : ℕ} (s : Vec Ideal ⟨3, ![4, 3, N]⟩ .f32) (j : ℕ) (a : Carried N) (ha : Holds s j a)
    (off : Fin 3 → ℕ) (hoff : off = ![0, j, 0]) (hin : ∀ ax, off ax + (![4, 1, 3] : Fin 3 → ℕ) ax ≤ (![4, M, 3] : Fin 3 → ℕ) ax)
    (x : (⟨3, ![4, 1, 3]⟩ : Shape).Idx) :
    h.rowOf a x = fps M s ((Rect.unit (s := ⟨3, ![4, M, 3]⟩) off ![4, 1, 3] hin).emb x) := by
  subst hoff
  obtain ⟨b, u, c, rfl⟩ : ∃ (b : Fin 4) (u : Fin 1) (c : Fin 3), x = ix3 b u c := ⟨_, _, _, eq_ix3 x⟩
  have hj : j < M := hin 1
  have he : (Rect.unit (s := ⟨3, ![4, M, 3]⟩) ![0, j, 0] ![4, 1, 3] hin).emb (ix3 b u c) = ix3 b ⟨j, hj⟩ c :=
    funext fun ax => Fin.ext (by
      match ax with
      | ⟨0, _⟩ => show 0 + 1 * b.val = b.val; omega
      | ⟨1, _⟩ => show j + 1 * u.val = j; omega
      | ⟨2, _⟩ => show 0 + 1 * c.val = c.val; omega)
  exact (h.rowOf_holds s j a ha b u c).trans (congrArg (fps M s) he.symm)

end Sizes

end Cert.Fps
-- ==== Proof.Pyramid.lean ====
/-
  THE PYRAMID as one function of the points: two samplings (4096 → 1024 → 256), and the nearest neighbours between its layers.
-/
module

public import proofs.«01_k».proof.Proof.Fps

@[expose] public section

noncomputable section

namespace Cert.Pyramid

open Idealize.ShloMosaic Cert.Knn Cert.Fps

/-- Four clouds, given point by point, as coordinate rows. -/
def rows {N : ℕ} (p : Vec Ideal ⟨3, ![4, N, 3]⟩ .f32) : Vec Ideal ⟨3, ![4, 3, N]⟩ .f32 := fun i => p (ix3 (i 0) (i 2) (i 1))

/-- `M` points sampled from each cloud. -/
def sample {N : ℕ} [NeZero N] (M : ℕ) (p : Vec Ideal ⟨3, ![4, N, 3]⟩ .f32) : Vec Ideal ⟨3, ![4, M, 3]⟩ .f32 := fps M (rows p)

/-- The sixteen nearest of the supports `s`, for every query of `q`. -/
def neighbours {Q S : ℕ} [NeZero S] (q : Vec Ideal ⟨3, ![4, Q, 3]⟩ .f32) (s : Vec Ideal ⟨3, ![4, S, 3]⟩ .f32) :
    Vec Ideal ⟨3, ![4, Q, 16]⟩ .i32 := near q (rows s)

/-- The middle layer. -/
def layer1 (p : Vec Ideal ⟨3, ![4, 4096, 3]⟩ .f32) : Vec Ideal ⟨3, ![4, 1024, 3]⟩ .f32 := sample 1024 p

/-- The coarsest layer. -/
def layer2 (p : Vec Ideal ⟨3, ![4, 4096, 3]⟩ .f32) : Vec Ideal ⟨3, ![4, 256, 3]⟩ .f32 := sample 256 (layer1 p)

end Cert.Pyramid
-- ==== Proof.KnnRegions.lean ====
/-
  THE SEVEN NEIGHBOUR REGIONS: each region's body leaves `Sizes.block` at its shapes in the output block, so its result array
  is `Cert.Knn.near` of the two arrays it reads.
-/
module

public import proofs.«01_k».proof.Proof.KnnBlock
public import proofs.«01_k».proof.Proof.Gen.KernelIdeal.Frame
public import Idealize.ShloMosaic.Lib.Pipeline.ValueKit.Geometry

@[expose] public section

noncomputable section

namespace Cert.KernelIdeal.Near

open Idealize.ShloMosaic Idealize.ShloMosaic.TcCoe Cert.KernelIdeal Cert.KernelIdeal.Gen Cert.Knn

theorem sizes_512_4096 : Sizes 512 4096 where
  reduces := reduces_S512x4096_S512
  column := shapeCasts_S512_S512x1
  spread := broadcasts_S512x1_S512x4096
  spreadRow := broadcasts_S1x4096_S512x4096
  positions := iota_S512x4096_d1_w32
  stored := shapeCasts_S512x1_S1x512x1
  qcol := shapeCasts_S1x512x1_S512x1
  srow := shapeCasts_S1x1x4096_S1x4096
  qmat := shapeCasts_S1x512x3_S512x3
  smat := shapeCasts_S1x3x4096_S3x4096
  qin := by decide +kernel
  sin := by decide +kernel
  qall := by decide +kernel
  sall := by decide +kernel
  out := by decide +kernel

theorem sizes_512_1024 : Sizes 512 1024 where
  reduces := reduces_S512x1024_S512
  column := shapeCasts_S512_S512x1
  spread := broadcasts_S512x1_S512x1024
  spreadRow := broadcasts_S1x1024_S512x1024
  positions := iota_S512x1024_d1_w32
  stored := shapeCasts_S512x1_S1x512x1
  qcol := shapeCasts_S1x512x1_S512x1
  srow := shapeCasts_S1x1x1024_S1x1024
  qmat := shapeCasts_S1x512x3_S512x3
  smat := shapeCasts_S1x3x1024_S3x1024
  qin := by decide +kernel
  sin := by decide +kernel
  qall := by decide +kernel
  sall := by decide +kernel
  out := by decide +kernel

theorem sizes_256_256 : Sizes 256 256 where
  reduces := reduces_S256x256_S256
  column := shapeCasts_S256_S256x1
  spread := broadcasts_S256x1_S256x256
  spreadRow := broadcasts_S1x256_S256x256
  positions := iota_S256x256_d1_w32
  stored := shapeCasts_S256x1_S1x256x1
  qcol := shapeCasts_S1x256x1_S256x1
  srow := shapeCasts_S1x1x256_S1x256
  qmat := shapeCasts_S1x256x3_S256x3
  smat := shapeCasts_S1x3x256_S3x256
  qin := by decide +kernel
  sin := by decide +kernel
  qall := by decide +kernel
  sall := by decide +kernel
  out := by decide +kernel

theorem sizes_256_1024 : Sizes 256 1024 where
  reduces := reduces_S256x1024_S256
  column := shapeCasts_S256_S256x1
  spread := broadcasts_S256x1_S256x1024
  spreadRow := broadcasts_S1x1024_S256x1024
  positions := iota_S256x1024_d1_w32
  stored := shapeCasts_S256x1_S1x256x1
  qcol := shapeCasts_S1x256x1_S256x1
  srow := shapeCasts_S1x1x1024_S1x1024
  qmat := shapeCasts_S1x256x3_S256x3
  smat := shapeCasts_S1x3x1024_S3x1024
  qin := by decide +kernel
  sin := by decide +kernel
  qall := by decide +kernel
  sall := by decide +kernel
  out := by decide +kernel

theorem sizes_512_256 : Sizes 512 256 where
  reduces := reduces_S512x256_S512
  column := shapeCasts_S512_S512x1
  spread := broadcasts_S512x1_S512x256
  spreadRow := broadcasts_S1x256_S512x256
  positions := iota_S512x256_d1_w32
  stored := shapeCasts_S512x1_S1x512x1
  qcol := shapeCasts_S1x512x1_S512x1
  srow := shapeCasts_S1x1x256_S1x256
  qmat := shapeCasts_S1x512x3_S512x3
  smat := shapeCasts_S1x3x256_S3x256
  qin := by decide +kernel
  sin := by decide +kernel
  qall := by decide +kernel
  sall := by decide +kernel
  out := by decide +kernel

variable (V : (c : Dev nD) → (b : Ref sig .tc) → Buf (Elt Ideal) ((c : Thread nD τ).loc b)) (c : Dev nD)

/-! ## Region 2 -/

theorem block2 (x0 : Vec Ideal S1x512x3 .f32) (x1 : Vec Ideal S1x3x4096 .f32) :
    out2_2 x0 x1 = sizes_512_4096.block true true x0 x1 := rfl

theorem index2 : ∀ t : Fin cfg2.N, win2_0.index t = ![win2_2.index t (0 : Fin 3), win2_2.index t (1 : Fin 3), 0]
    ∧ win2_1.index t = ![win2_2.index t (0 : Fin 3), 0, 0] ∧ win2_2.index t (2 : Fin 3) = 0 :=
  (by decide +kernel : ∀ t : Fin grid2.N, _)

theorem result2 : (dat2 V c).arrAt 2 cfg2.N = near (Q := 4096) (S := 4096) (V c main_arg0) (V c main_v0) := by
  refine (dat2 V c).arrAt_eq_of_covers 2 _ (by decide +kernel) fun t hf y => ?_
  obtain ⟨e0, e1, e2⟩ := index2 t
  blk_simp
  rw [after2_2, block2]
  refine sizes_512_4096.block_near (Q := 4096) (by decide) _ _ _ _ _ _ _ _ (fun d => ?_) (fun d s => ?_) ?_
  · blk_ext [iblk2, e0]
  · blk_ext [iblk2, e1]
  · blk_simp [e2]

/-! ## Region 3 -/

theorem block3 (x0 : Vec Ideal S1x512x3 .f32) (x1 : Vec Ideal S1x3x1024 .f32) :
    out3_2 x0 x1 = sizes_512_1024.block false false x0 x1 := rfl

theorem index3 : ∀ t : Fin cfg3.N, win3_0.index t = ![win3_2.index t (0 : Fin 3), win3_2.index t (1 : Fin 3), 0]
    ∧ win3_1.index t = ![win3_2.index t (0 : Fin 3), 0, 0] ∧ win3_2.index t (2 : Fin 3) = 0 :=
  (by decide +kernel : ∀ t : Fin grid3.N, _)

theorem result3 : (dat3 V c).arrAt 2 cfg3.N = near (Q := 1024) (S := 1024) (V c main_v1) (V c main_v2) := by
  refine (dat3 V c).arrAt_eq_of_covers 2 _ (by decide +kernel) fun t hf y => ?_
  obtain ⟨e0, e1, e2⟩ := index3 t
  blk_simp
  rw [after3_2, block3]
  refine sizes_512_1024.block_near (Q := 1024) (by decide) _ _ _ _ _ _ _ _ (fun d => ?_) (fun d s => ?_) ?_
  · blk_ext [iblk3, e0]
  · blk_ext [iblk3, e1]
  · blk_simp [e2]

/-! ## Region 4 -/

theorem block4 (x0 : Vec Ideal S1x256x3 .f32) (x1 : Vec Ideal S1x3x256 .f32) :
    out4_2 x0 x1 = sizes_256_256.block true true x0 x1 := rfl

theorem index4 : ∀ t : Fin cfg4.N, win4_0.index t = ![win4_2.index t (0 : Fin 3), win4_2.index t (1 : Fin 3), 0]
    ∧ win4_1.index t = ![win4_2.index t (0 : Fin 3), 0, 0] ∧ win4_2.index t (2 : Fin 3) = 0 :=
  (by decide +kernel : ∀ t : Fin grid4.N, _)

theorem result4 : (dat4 V c).arrAt 2 cfg4.N = near (Q := 256) (S := 256) (V c main_v3) (V c main_v4) := by
  refine (dat4 V c).arrAt_eq_of_covers 2 _ (by decide +kernel) fun t hf y => ?_
  obtain ⟨e0, e1, e2⟩ := index4 t
  blk_simp
  rw [after4_2, block4]
  refine sizes_256_256.block_near (Q := 256) (by decide) _ _ _ _ _ _ _ _ (fun d => ?_) (fun d s => ?_) ?_
  · blk_ext [iblk4, e0]
  · blk_ext [iblk4, e1]
  · blk_simp [e2]

/-! ## Region 5 -/

theorem block5 (x0 : Vec Ideal S1x512x3 .f32) (x1 : Vec Ideal S1x3x4096 .f32) :
    out5_2 x0 x1 = sizes_512_4096.block false true x0 x1 := rfl

theorem index5 : ∀ t : Fin cfg5.N, win5_0.index t = ![win5_2.index t (0 : Fin 3), win5_2.index t (1 : Fin 3), 0]
    ∧ win5_1.index t = ![win5_2.index t (0 : Fin 3), 0, 0] ∧ win5_2.index t (2 : Fin 3) = 0 :=
  (by decide +kernel : ∀ t : Fin grid5.N, _)

theorem result5 : (dat5 V c).arrAt 2 cfg5.N = near (Q := 1024) (S := 4096) (V c main_v1) (V c main_v0) := by
  refine (dat5 V c).arrAt_eq_of_covers 2 _ (by decide +kernel) fun t hf y => ?_
  obtain ⟨e0, e1, e2⟩ := index5 t
  blk_simp
  rw [after5_2, block5]
  refine sizes_512_4096.block_near (Q := 1024) (by decide) _ _ _ _ _ _ _ _ (fun d => ?_) (fun d s => ?_) ?_
  · blk_ext [iblk5, e0]
  · blk_ext [iblk5, e1]
  · blk_simp [e2]

/-! ## Region 6 -/

theorem block6 (x0 : Vec Ideal S1x256x3 .f32) (x1 : Vec Ideal S1x3x1024 .f32) :
    out6_2 x0 x1 = sizes_256_1024.block true false x0 x1 := rfl

theorem index6 : ∀ t : Fin cfg6.N, win6_0.index t = ![win6_2.index t (0 : Fin 3), win6_2.index t (1 : Fin 3), 0]
    ∧ win6_1.index t = ![win6_2.index t (0 : Fin 3), 0, 0] ∧ win6_2.index t (2 : Fin 3) = 0 :=
  (by decide +kernel : ∀ t : Fin grid6.N, _)

theorem result6 : (dat6 V c).arrAt 2 cfg6.N = near (Q := 256) (S := 1024) (V c main_v3) (V c main_v2) := by
  refine (dat6 V c).arrAt_eq_of_covers 2 _ (by decide +kernel) fun t hf y => ?_
  obtain ⟨e0, e1, e2⟩ := index6 t
  blk_simp
  rw [after6_2, block6]
  refine sizes_256_1024.block_near (Q := 256) (by decide) _ _ _ _ _ _ _ _ (fun d => ?_) (fun d s => ?_) ?_
  · blk_ext [iblk6, e0]
  · blk_ext [iblk6, e1]
  · blk_simp [e2]

/-! ## Region 7 -/

theorem block7 (x0 : Vec Ideal S1x512x3 .f32) (x1 : Vec Ideal S1x3x1024 .f32) :
    out7_2 x0 x1 = sizes_512_1024.block true false x0 x1 := rfl

theorem index7 : ∀ t : Fin cfg7.N, win7_0.index t = ![win7_2.index t (0 : Fin 3), win7_2.index t (1 : Fin 3), 0]
    ∧ win7_1.index t = ![win7_2.index t (0 : Fin 3), 0, 0] ∧ win7_2.index t (2 : Fin 3) = 0 :=
  (by decide +kernel : ∀ t : Fin grid7.N, _)

theorem result7 : (dat7 V c).arrAt 2 cfg7.N = near (Q := 4096) (S := 1024) (V c main_arg0) (V c main_v2) := by
  refine (dat7 V c).arrAt_eq_of_covers 2 _ (by decide +kernel) fun t hf y => ?_
  obtain ⟨e0, e1, e2⟩ := index7 t
  blk_simp
  rw [after7_2, block7]
  refine sizes_512_1024.block_near (Q := 4096) (by decide) _ _ _ _ _ _ _ _ (fun d => ?_) (fun d s => ?_) ?_
  · blk_ext [iblk7, e0]
  · blk_ext [iblk7, e1]
  · blk_simp [e2]

/-! ## Region 8 -/

theorem block8 (x0 : Vec Ideal S1x512x3 .f32) (x1 : Vec Ideal S1x3x256 .f32) :
    out8_2 x0 x1 = sizes_512_256.block false true x0 x1 := rfl

theorem index8 : ∀ t : Fin cfg8.N, win8_0.index t = ![win8_2.index t (0 : Fin 3), win8_2.index t (1 : Fin 3), 0]
    ∧ win8_1.index t = ![win8_2.index t (0 : Fin 3), 0, 0] ∧ win8_2.index t (2 : Fin 3) = 0 :=
  (by decide +kernel : ∀ t : Fin grid8.N, _)

theorem result8 : (dat8 V c).arrAt 2 cfg8.N = near (Q := 1024) (S := 256) (V c main_v1) (V c main_v4) := by
  refine (dat8 V c).arrAt_eq_of_covers 2 _ (by decide +kernel) fun t hf y => ?_
  obtain ⟨e0, e1, e2⟩ := index8 t
  blk_simp
  rw [after8_2, block8]
  refine sizes_512_256.block_near (Q := 1024) (by decide) _ _ _ _ _ _ _ _ (fun d => ?_) (fun d s => ?_) ?_
  · blk_ext [iblk8, e0]
  · blk_ext [iblk8, e1]
  · blk_simp [e2]

end Cert.KernelIdeal.Near

end
-- ==== Proof.FpsRegions.lean ====
/-
  THE TWO SAMPLING REGIONS: each region's body stores the first point and then, turn by turn, the point chosen, so its result
  array is `Cert.Fps.fps` of the array it reads.
-/
module

public import proofs.«01_k».proof.Proof.Fps
public import proofs.«01_k».proof.Proof.Gen.KernelIdeal.Frame
public import Idealize.ShloMosaic.Lib.Pipeline.ValueKit.Geometry

@[expose] public section

noncomputable section

namespace Cert.KernelIdeal.Sampling

open Idealize.ShloMosaic Idealize.ShloMosaic.TcCoe Cert.KernelIdeal Cert.KernelIdeal.Gen Cert.Fps

theorem sizes_4096 : Sizes 4096 where
  reduces := reduces_S4x4096_S4
  column := shapeCasts_S4_S4x1
  spread := broadcasts_S4x1_S4x4096
  positions := iota_S4x4096_d1_w32
  plane := shapeCasts_S4x1x4096_S4x4096
  start := slices_S4x4096_o0_0_S4x1
  cell := shapeCasts_S4x1_S4x1x1
  three := concatenates_S4x1x1_S4x1x1_S4x1x1_S4x1x3_d2
  rows := by decide +kernel

theorem sizes_1024 : Sizes 1024 where
  reduces := reduces_S4x1024_S4
  column := shapeCasts_S4_S4x1
  spread := broadcasts_S4x1_S4x1024
  positions := iota_S4x1024_d1_w32
  plane := shapeCasts_S4x1x1024_S4x1024
  start := slices_S4x1024_o0_0_S4x1
  cell := shapeCasts_S4x1_S4x1x1
  three := concatenates_S4x1x1_S4x1x1_S4x1x1_S4x1x3_d2
  rows := by decide +kernel

variable (V : (c : Dev nD) → (b : Ref sig .tc) → Buf (Elt Ideal) ((c : Thread nD τ).loc b)) (c : Dev nD)

/-! ## Region 0 -/

/-- One trip of the loop yields the turn's carried values. -/
theorem trip0_result (𝒱 : Variants) (bd : Option 𝒱.V) (a0 : Memref sig .tc .vmem S4x3x4096 .f32) (h0 : a0.IsWhole)
    (a1 : Memref sig .tc .vmem S4x1024x3 .f32) (h1 : a1.IsWhole) (x y z : Vec Ideal S4x1x4096 .f32) (k : Fin k0_t1_loop.trips)
    (a : Carried 4096) : tripR_k0_t1 (F := Ideal) 𝒱 c bd a0 h0 a1 h1 x y z k a = sizes_4096.turn x y z a := by
  unfold tripR_k0_t1 trip_k0_t1
  rfl

/-- One trip of the loop stores the newly chosen point. -/
theorem trip0_stores (𝒱 : Variants) (bd : Option 𝒱.V) (a0 : Memref sig .tc .vmem S4x3x4096 .f32) (h0 : a0.IsWhole)
    (a1 : Memref sig .tc .vmem S4x1024x3 .f32) (h1 : a1.IsWhole) (x y z : Vec Ideal S4x1x4096 .f32) (k : Fin k0_t1_loop.trips)
    (a : Carried 4096) : tripL_k0_t1 (F := Ideal) 𝒱 c bd a0 h0 a1 h1 x y z k a
      = [⟨Rect.unit (s := S4x1024x3) (k0_off1 k) S4x1x3.size (k0_off1_inb k), sizes_4096.rowOf (sizes_4096.turn x y z a)⟩] := by
  unfold tripL_k0_t1 trip_k0_t1
  rfl

/-- Before trip `k` the carried values are the sampling's state, and every row stored is the sampled cloud's. -/
theorem loop0 (𝒱 : Variants) (bd : Option 𝒱.V) (a0 : Memref sig .tc .vmem S4x3x4096 .f32) (h0 : a0.IsWhole)
    (a1 : Memref sig .tc .vmem S4x1024x3 .f32) (h1 : a1.IsWhole) (s : Vec Ideal S4x3x4096 .f32) (x y z : Vec Ideal S4x1x4096 .f32)
    (hx : x = sizes_4096.rowAt s 0 (by decide)) (hy : y = sizes_4096.rowAt s 1 (by decide)) (hz : z = sizes_4096.rowAt s 2 (by decide))
    (k : ℕ) (hk : k ≤ k0_t1_loop.trips) :
    Sizes.Holds s k (st_k0_t1 (F := Ideal) 𝒱 c bd a0 h0 a1 h1 x y z (sizes_4096.init x y z) k).1
      ∧ ∀ p ∈ (st_k0_t1 (F := Ideal) 𝒱 c bd a0 h0 a1 h1 x y z (sizes_4096.init x y z) k).2, ∀ i, p.2 i = fps 1024 s (p.1.emb i) := by
  subst hx hy hz
  induction k with
  | zero =>
    refine ⟨sizes_4096.holds_init s, fun p hp => ?_⟩
    exact absurd hp List.not_mem_nil
  | succ k ih =>
    obtain ⟨ih1, ih2⟩ := ih (Nat.le_of_succ_le hk)
    have hs := st_k0_t1_succ (F := Ideal) 𝒱 c bd a0 h0 a1 h1 (sizes_4096.rowAt s 0 (by decide)) (sizes_4096.rowAt s 1 (by decide))
      (sizes_4096.rowAt s 2 (by decide)) (sizes_4096.init (sizes_4096.rowAt s 0 (by decide)) (sizes_4096.rowAt s 1 (by decide))
      (sizes_4096.rowAt s 2 (by decide))) ⟨k, hk⟩
    rw [trip0_result, trip0_stores] at hs
    have ht := sizes_4096.holds_turn (by decide) s k _ ih1
    rw [hs]
    refine ⟨ht, fun p hp => ?_⟩
    rcases List.mem_append.mp hp with hp | hp
    · obtain rfl := List.mem_singleton.mp hp
      exact sizes_4096.stored_row s (k + 1) _ ht _ (k0_off1_eq ⟨k, hk⟩) (k0_off1_inb ⟨k, hk⟩)
    · exact ih2 p hp

/-- A coordinate's row, as the body reads it. -/
abbrev read0 (a0 : Memref sig .tc .vmem S4x3x4096 .f32) (h0 : a0.IsWhole) (s : Vec Ideal S4x3x4096 .f32) (d : ℕ) (hd : d < 3) :
    Vec Ideal S4x1x4096 .f32 :=
  View.readAt (Elt Ideal) a0.view (Rect.unit (s := S4x3x4096) ![0, d, 0] S4x1x4096.size (sizes_4096.rows d hd)).toLoadRect (h0.unread s)

theorem read0_eq (a0 : Memref sig .tc .vmem S4x3x4096 .f32) (h0 : a0.IsWhole) (s : Vec Ideal S4x3x4096 .f32) (d : ℕ) (hd : d < 3) :
    read0 a0 h0 s d hd = sizes_4096.rowAt s d hd := by
  unfold read0
  rw [View.readAt_eq_ld, h0.read_unread]
  rfl

/-- The body's stores: the loop's, after the first point's. -/
theorem stores0 (a0 : Memref sig .tc .vmem S4x3x4096 .f32) (h0 : a0.IsWhole) (a1 : Memref sig .tc .vmem S4x1024x3 .f32) (h1 : a1.IsWhole)
    (s : Vec Ideal S4x3x4096 .f32) : (kernelRun0_A c a0 h0 a1 h1 s).1
      = (st_k0_t1 (F := Ideal) Variants.none c none a0 h0 a1 h1 (read0 a0 h0 s 0 (by decide)) (read0 a0 h0 s 1 (by decide))
          (read0 a0 h0 s 2 (by decide)) (sizes_4096.init (read0 a0 h0 s 0 (by decide)) (read0 a0 h0 s 1 (by decide))
          (read0 a0 h0 s 2 (by decide))) k0_t1_loop.trips).2
        ++ [⟨Rect.unit (s := S4x1024x3) ![0, 0, 0] S4x1x3.size inb_S4x1024x3_S4x1x3_0_0_0,
            sizes_4096.rowOf (sizes_4096.init (read0 a0 h0 s 0 (by decide)) (read0 a0 h0 s 1 (by decide)) (read0 a0 h0 s 2 (by decide)))⟩] := by
  unfold kernelRun0_A
  dsimp only
  sl_unfold_words
  rfl

/-- The body leaves the sampled clouds in the output block. -/
theorem block0 (a0 : Memref sig .tc .vmem S4x3x4096 .f32) (h0 : a0.IsWhole) (a1 : Memref sig .tc .vmem S4x1024x3 .f32) (h1 : a1.IsWhole)
    (s : Vec Ideal S4x3x4096 .f32) : out0_A_1 c a0 h0 a1 h1 s = fps 1024 s := by
  have hp : ∀ p ∈ (kernelRun0_A c a0 h0 a1 h1 s).1, ∀ i, p.2 i = fps 1024 s (p.1.emb i) := by
    rw [stores0]
    intro p hp
    rcases List.mem_append.mp hp with hp | hp
    · exact (loop0 c _ _ a0 h0 a1 h1 s _ _ _ (read0_eq ..) (read0_eq ..) (read0_eq ..) _ le_rfl).2 p hp
    · obtain rfl := List.mem_singleton.mp hp
      refine sizes_4096.stored_row s 0 _ ?_ _ rfl inb_S4x1024x3_S4x1x3_0_0_0
      rw [read0_eq, read0_eq, read0_eq]
      exact sizes_4096.holds_init s
  unfold out0_A_1
  rw [View.read_writes_eq_canon _ _ _ (cover0_A_1 c a0 h0 a1 h1 s)]
  funext y
  exact View.canon_apply_of_pieces (fps 1024 s) _ hp y (cover0_A_1 c a0 h0 a1 h1 s y)

theorem index0 : ∀ t : Fin cfg0.N, win0_0.index t = ![0, 0, 0] ∧ win0_1.index t = ![0, 0, 0] :=
  (by decide +kernel : ∀ t : Fin grid0.N, _)

theorem result0 : (dat0 V c).arrAt 1 cfg0.N = fps 1024 (V c main_v0) := by
  refine (dat0 V c).arrAt_eq_of_covers 1 _ (by decide +kernel) fun t hf y => ?_
  obtain ⟨e0, e1⟩ := index0 t
  have he : iblk0 V c 0 t = V c main_v0 := by
    funext i
    blk_ext [iblk0, e0]
  rw [after0_1]
  unfold outsAt0
  rw [block0, he]
  refine congrArg (fps 1024 (V c main_v0)) ?_
  blk_ext [e1]

/-! ## Region 1 -/

/-- One trip of the loop yields the turn's carried values. -/
theorem trip1_result (𝒱 : Variants) (bd : Option 𝒱.V) (a0 : Memref sig .tc .vmem S4x3x1024 .f32) (h0 : a0.IsWhole)
    (a1 : Memref sig .tc .vmem S4x256x3 .f32) (h1 : a1.IsWhole) (x y z : Vec Ideal S4x1x1024 .f32) (k : Fin k1_t1_loop.trips)
    (a : Carried 1024) : tripR_k1_t1 (F := Ideal) 𝒱 c bd a0 h0 a1 h1 x y z k a = sizes_1024.turn x y z a := by
  unfold tripR_k1_t1 trip_k1_t1
  rfl

/-- One trip of the loop stores the newly chosen point. -/
theorem trip1_stores (𝒱 : Variants) (bd : Option 𝒱.V) (a0 : Memref sig .tc .vmem S4x3x1024 .f32) (h0 : a0.IsWhole)
    (a1 : Memref sig .tc .vmem S4x256x3 .f32) (h1 : a1.IsWhole) (x y z : Vec Ideal S4x1x1024 .f32) (k : Fin k1_t1_loop.trips)
    (a : Carried 1024) : tripL_k1_t1 (F := Ideal) 𝒱 c bd a0 h0 a1 h1 x y z k a
      = [⟨Rect.unit (s := S4x256x3) (k1_off1 k) S4x1x3.size (k1_off1_inb k), sizes_1024.rowOf (sizes_1024.turn x y z a)⟩] := by
  unfold tripL_k1_t1 trip_k1_t1
  rfl

/-- Before trip `k` the carried values are the sampling's state, and every row stored is the sampled cloud's. -/
theorem loop1 (𝒱 : Variants) (bd : Option 𝒱.V) (a0 : Memref sig .tc .vmem S4x3x1024 .f32) (h0 : a0.IsWhole)
    (a1 : Memref sig .tc .vmem S4x256x3 .f32) (h1 : a1.IsWhole) (s : Vec Ideal S4x3x1024 .f32) (x y z : Vec Ideal S4x1x1024 .f32)
    (hx : x = sizes_1024.rowAt s 0 (by decide)) (hy : y = sizes_1024.rowAt s 1 (by decide)) (hz : z = sizes_1024.rowAt s 2 (by decide))
    (k : ℕ) (hk : k ≤ k1_t1_loop.trips) :
    Sizes.Holds s k (st_k1_t1 (F := Ideal) 𝒱 c bd a0 h0 a1 h1 x y z (sizes_1024.init x y z) k).1
      ∧ ∀ p ∈ (st_k1_t1 (F := Ideal) 𝒱 c bd a0 h0 a1 h1 x y z (sizes_1024.init x y z) k).2, ∀ i, p.2 i = fps 256 s (p.1.emb i) := by
  subst hx hy hz
  induction k with
  | zero =>
    refine ⟨sizes_1024.holds_init s, fun p hp => ?_⟩
    exact absurd hp List.not_mem_nil
  | succ k ih =>
    obtain ⟨ih1, ih2⟩ := ih (Nat.le_of_succ_le hk)
    have hs := st_k1_t1_succ (F := Ideal) 𝒱 c bd a0 h0 a1 h1 (sizes_1024.rowAt s 0 (by decide)) (sizes_1024.rowAt s 1 (by decide))
      (sizes_1024.rowAt s 2 (by decide)) (sizes_1024.init (sizes_1024.rowAt s 0 (by decide)) (sizes_1024.rowAt s 1 (by decide))
      (sizes_1024.rowAt s 2 (by decide))) ⟨k, hk⟩
    rw [trip1_result, trip1_stores] at hs
    have ht := sizes_1024.holds_turn (by decide) s k _ ih1
    rw [hs]
    refine ⟨ht, fun p hp => ?_⟩
    rcases List.mem_append.mp hp with hp | hp
    · obtain rfl := List.mem_singleton.mp hp
      exact sizes_1024.stored_row s (k + 1) _ ht _ (k1_off1_eq ⟨k, hk⟩) (k1_off1_inb ⟨k, hk⟩)
    · exact ih2 p hp

/-- A coordinate's row, as the body reads it. -/
abbrev read1 (a0 : Memref sig .tc .vmem S4x3x1024 .f32) (h0 : a0.IsWhole) (s : Vec Ideal S4x3x1024 .f32) (d : ℕ) (hd : d < 3) :
    Vec Ideal S4x1x1024 .f32 :=
  View.readAt (Elt Ideal) a0.view (Rect.unit (s := S4x3x1024) ![0, d, 0] S4x1x1024.size (sizes_1024.rows d hd)).toLoadRect (h0.unread s)

theorem read1_eq (a0 : Memref sig .tc .vmem S4x3x1024 .f32) (h0 : a0.IsWhole) (s : Vec Ideal S4x3x1024 .f32) (d : ℕ) (hd : d < 3) :
    read1 a0 h0 s d hd = sizes_1024.rowAt s d hd := by
  unfold read1
  rw [View.readAt_eq_ld, h0.read_unread]
  rfl

/-- The body's stores: the loop's, after the first point's. -/
theorem stores1 (a0 : Memref sig .tc .vmem S4x3x1024 .f32) (h0 : a0.IsWhole) (a1 : Memref sig .tc .vmem S4x256x3 .f32) (h1 : a1.IsWhole)
    (s : Vec Ideal S4x3x1024 .f32) : (kernelRun1_A c a0 h0 a1 h1 s).1
      = (st_k1_t1 (F := Ideal) Variants.none c none a0 h0 a1 h1 (read1 a0 h0 s 0 (by decide)) (read1 a0 h0 s 1 (by decide))
          (read1 a0 h0 s 2 (by decide)) (sizes_1024.init (read1 a0 h0 s 0 (by decide)) (read1 a0 h0 s 1 (by decide))
          (read1 a0 h0 s 2 (by decide))) k1_t1_loop.trips).2
        ++ [⟨Rect.unit (s := S4x256x3) ![0, 0, 0] S4x1x3.size inb_S4x256x3_S4x1x3_0_0_0,
            sizes_1024.rowOf (sizes_1024.init (read1 a0 h0 s 0 (by decide)) (read1 a0 h0 s 1 (by decide)) (read1 a0 h0 s 2 (by decide)))⟩] := by
  unfold kernelRun1_A
  dsimp only
  sl_unfold_words
  rfl

/-- The body leaves the sampled clouds in the output block. -/
theorem block1 (a0 : Memref sig .tc .vmem S4x3x1024 .f32) (h0 : a0.IsWhole) (a1 : Memref sig .tc .vmem S4x256x3 .f32) (h1 : a1.IsWhole)
    (s : Vec Ideal S4x3x1024 .f32) : out1_A_1 c a0 h0 a1 h1 s = fps 256 s := by
  have hp : ∀ p ∈ (kernelRun1_A c a0 h0 a1 h1 s).1, ∀ i, p.2 i = fps 256 s (p.1.emb i) := by
    rw [stores1]
    intro p hp
    rcases List.mem_append.mp hp with hp | hp
    · exact (loop1 c _ _ a0 h0 a1 h1 s _ _ _ (read1_eq ..) (read1_eq ..) (read1_eq ..) _ le_rfl).2 p hp
    · obtain rfl := List.mem_singleton.mp hp
      refine sizes_1024.stored_row s 0 _ ?_ _ rfl inb_S4x256x3_S4x1x3_0_0_0
      rw [read1_eq, read1_eq, read1_eq]
      exact sizes_1024.holds_init s
  unfold out1_A_1
  rw [View.read_writes_eq_canon _ _ _ (cover1_A_1 c a0 h0 a1 h1 s)]
  funext y
  exact View.canon_apply_of_pieces (fps 256 s) _ hp y (cover1_A_1 c a0 h0 a1 h1 s y)

theorem index1 : ∀ t : Fin cfg1.N, win1_0.index t = ![0, 0, 0] ∧ win1_1.index t = ![0, 0, 0] :=
  (by decide +kernel : ∀ t : Fin grid1.N, _)

theorem result1 : (dat1 V c).arrAt 1 cfg1.N = fps 256 (V c main_v2) := by
  refine (dat1 V c).arrAt_eq_of_covers 1 _ (by decide +kernel) fun t hf y => ?_
  obtain ⟨e0, e1⟩ := index1 t
  have he : iblk1 V c 0 t = V c main_v2 := by
    funext i
    blk_ext [iblk1, e0]
  rw [after1_1]
  unfold outsAt1
  rw [block1, he]
  refine congrArg (fps 256 (V c main_v2)) ?_
  blk_ext [e1]

end Cert.KernelIdeal.Sampling
-- ==== Proof.KernelRun.lean ====
/-
  THE KERNEL'S RUN, with its results: every execution ends with the pyramid's layers and neighbours, as functions of the points, in
  the result arrays.
-/
module

public import proofs.«01_k».proof.Proof.Pyramid
public import proofs.«01_k».proof.Proof.KnnRegions
public import proofs.«01_k».proof.Proof.FpsRegions
public import Idealize.ShloMosaic.Lib.StableHlo.ReadAt

@[expose] public section

set_option maxRecDepth 16384

noncomputable section

namespace Cert.KernelIdeal.Results

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Cert.Knn Cert.Fps Cert.Pyramid

variable (m : (ℓ : Loc nD τ sig) → Buf (Elt Ideal) ℓ) (ρ : Dev nD → PrngReg) (c : Dev nD)

/-- The points. -/
abbrev points : Vec Ideal S4x4096x3 .f32 := m ((c : Thread nD τ).loc main_arg0)

/-! ## The layers -/

theorem rows0 : V1 m ρ c main_v0 = rows (points m c) := by
  funext j
  show StableHlo.after hostOps0 (W0 m ρ c) (Proc.devRef .tc main_v0) j = _
  after_reads_at
  rfl

theorem layer1_at2 : V2 m ρ c main_v1 = layer1 (points m c) :=
  (W2_arr m ρ c 1).trans ((Sampling.result0 (V1 m ρ) c).trans (congrArg (fps 1024) (rows0 m ρ c)))

theorem rows1 : V3 m ρ c main_v2 = rows (layer1 (points m c)) := by
  rw [← layer1_at2 m ρ c]
  funext j
  show StableHlo.after hostOps1 (W2 m ρ c) (Proc.devRef .tc main_v2) j = _
  after_reads_at
  rfl

theorem layer2_at4 : V4 m ρ c main_v3 = layer2 (points m c) :=
  (W4_arr m ρ c 1).trans ((Sampling.result1 (V3 m ρ) c).trans (congrArg (fps 256) (rows1 m ρ c)))

theorem rows2 : V5 m ρ c main_v4 = rows (layer2 (points m c)) := by
  rw [← layer2_at4 m ρ c]
  funext j
  show StableHlo.after hostOps2 (W4 m ρ c) (Proc.devRef .tc main_v4) j = _
  after_reads_at
  rfl

/-- The arrays the neighbour regions read hold the layers and their coordinate rows. -/
structure Layers (V : (b : Ref sig .tc) → Buf (Elt Ideal) ((c : Thread nD τ).loc b)) : Prop where
  p0 : V main_arg0 = points m c
  r0 : V main_v0 = rows (points m c)
  p1 : V main_v1 = layer1 (points m c)
  r1 : V main_v2 = rows (layer1 (points m c))
  p2 : V main_v3 = layer2 (points m c)
  r2 : V main_v4 = rows (layer2 (points m c))

/-- They keep them where those arrays are kept. -/
theorem Layers.keep {V V' : (b : Ref sig .tc) → Buf (Elt Ideal) ((c : Thread nD τ).loc b)} (h : Layers m c V)
    (hk : ∀ b ∈ [main_arg0, main_v0, main_v1, main_v2, main_v3, main_v4], V' b = V b) : Layers m c V' where
  p0 := (hk main_arg0 (by decide)).trans h.p0
  r0 := (hk main_v0 (by decide)).trans h.r0
  p1 := (hk main_v1 (by decide)).trans h.p1
  r1 := (hk main_v2 (by decide)).trans h.r1
  p2 := (hk main_v3 (by decide)).trans h.p2
  r2 := (hk main_v4 (by decide)).trans h.r2

theorem layers5 : Layers m c (V5 m ρ c) where
  p0 := W5_args m ρ c main_arg0 (by decide)
  r0 := (W5_of m ρ c main_v0 (by decide)).trans ((W4_of m ρ c main_v0 (by decide)).trans ((W3_of m ρ c main_v0 (by decide)).trans
    ((W2_of m ρ c main_v0 (by decide)).trans (rows0 m ρ c))))
  p1 := (W5_of m ρ c main_v1 (by decide)).trans ((W4_of m ρ c main_v1 (by decide)).trans ((W3_of m ρ c main_v1 (by decide)).trans
    (layer1_at2 m ρ c)))
  r1 := (W5_of m ρ c main_v2 (by decide)).trans ((W4_of m ρ c main_v2 (by decide)).trans (rows1 m ρ c))
  p2 := (W5_of m ρ c main_v3 (by decide)).trans (layer2_at4 m ρ c)
  r2 := rows2 m ρ c

theorem layers6 : Layers m c (V6 m ρ c) := (layers5 m ρ c).keep m c fun b hb => W6_of m ρ c b (by revert b; decide +kernel)
theorem layers7 : Layers m c (V7 m ρ c) := (layers6 m ρ c).keep m c fun b hb => W7_of m ρ c b (by revert b; decide +kernel)
theorem layers8 : Layers m c (V8 m ρ c) := (layers7 m ρ c).keep m c fun b hb => W8_of m ρ c b (by revert b; decide +kernel)
theorem layers9 : Layers m c (V9 m ρ c) := (layers8 m ρ c).keep m c fun b hb => W9_of m ρ c b (by revert b; decide +kernel)
theorem layers10 : Layers m c (V10 m ρ c) := (layers9 m ρ c).keep m c fun b hb => W10_of m ρ c b (by revert b; decide +kernel)
theorem layers11 : Layers m c (V11 m ρ c) := (layers10 m ρ c).keep m c fun b hb => W11_of m ρ c b (by revert b; decide +kernel)
theorem layers12 : Layers m c (V12 m ρ c) := (layers11 m ρ c).keep m c fun b hb => W12_of m ρ c b (by revert b; decide +kernel)

/-! ## The neighbours -/

theorem nb0 : V12 m ρ c main_v5 = neighbours (points m c) (points m c) := by
  refine (W12_of m ρ c main_v5 (by decide)).trans <| (W11_of m ρ c main_v5 (by decide)).trans <|
    (W10_of m ρ c main_v5 (by decide)).trans <| (W9_of m ρ c main_v5 (by decide)).trans <|
    (W8_of m ρ c main_v5 (by decide)).trans <| (W7_of m ρ c main_v5 (by decide)).trans <| (W6_arr m ρ c 2).trans ?_
  rw [Near.result2, (layers5 m ρ c).p0, (layers5 m ρ c).r0]
  rfl

theorem nb1 : V12 m ρ c main_v6 = neighbours (layer1 (points m c)) (layer1 (points m c)) := by
  refine (W12_of m ρ c main_v6 (by decide)).trans <| (W11_of m ρ c main_v6 (by decide)).trans <|
    (W10_of m ρ c main_v6 (by decide)).trans <| (W9_of m ρ c main_v6 (by decide)).trans <|
    (W8_of m ρ c main_v6 (by decide)).trans <| (W7_arr m ρ c 2).trans ?_
  rw [Near.result3, (layers6 m ρ c).p1, (layers6 m ρ c).r1]
  rfl

theorem nb2 : V12 m ρ c main_v7 = neighbours (layer2 (points m c)) (layer2 (points m c)) := by
  refine (W12_of m ρ c main_v7 (by decide)).trans <| (W11_of m ρ c main_v7 (by decide)).trans <|
    (W10_of m ρ c main_v7 (by decide)).trans <| (W9_of m ρ c main_v7 (by decide)).trans <| (W8_arr m ρ c 2).trans ?_
  rw [Near.result4, (layers7 m ρ c).p2, (layers7 m ρ c).r2]
  rfl

theorem sub0 : V12 m ρ c main_v8 = neighbours (layer1 (points m c)) (points m c) := by
  refine (W12_of m ρ c main_v8 (by decide)).trans <| (W11_of m ρ c main_v8 (by decide)).trans <|
    (W10_of m ρ c main_v8 (by decide)).trans <| (W9_arr m ρ c 2).trans ?_
  rw [Near.result5, (layers8 m ρ c).p1, (layers8 m ρ c).r0]
  rfl

theorem sub1 : V12 m ρ c main_v9 = neighbours (layer2 (points m c)) (layer1 (points m c)) := by
  refine (W12_of m ρ c main_v9 (by decide)).trans <| (W11_of m ρ c main_v9 (by decide)).trans <| (W10_arr m ρ c 2).trans ?_
  rw [Near.result6, (layers9 m ρ c).p2, (layers9 m ρ c).r1]
  rfl

theorem up0 : V12 m ρ c main_v10 = neighbours (points m c) (layer1 (points m c)) := by
  refine (W12_of m ρ c main_v10 (by decide)).trans <| (W11_arr m ρ c 2).trans ?_
  rw [Near.result7, (layers10 m ρ c).p0, (layers10 m ρ c).r1]
  rfl

theorem up1 : V12 m ρ c main_v11 = neighbours (layer1 (points m c)) (layer2 (points m c)) := by
  refine (W12_arr m ρ c 2).trans ?_
  rw [Near.result8, (layers11 m ρ c).p1, (layers11 m ρ c).r2]
  rfl

/-! ## The run -/

local notation "𝕄" => MT nD τ sig Unit (Elt Ideal) ℕ (UR sig nD τ) ℕ

-- the launch theorem's implicit arguments are found by unifying its conclusion with the statement
set_option backward.isDefEq.respectTransparency.types false in
/-- Every execution ends with the whole of the last boundary's contents in the unscoped buffers. -/
theorem run : θ_run (defs (F := Ideal)) (onTc (τ := τ) (main (F := Ideal))) ⟨m, fun _ => 0, ρ⟩ (fun r => ∀ c : Dev nD,
      ∀ b : Ref sig .tc, ¬ (Proc.devRef .tc b : DevRef τ sig).isScoped → r.2.mem ((c.tc : Thread nD τ).loc b) = V12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c b hb => h c _ (mem_uc b hb))

end Cert.KernelIdeal.Results
-- ==== Proof.RefOps.lean ====
/-
  The reference program's host operations, cut into stretches: the lines before, between and after its two loops,
  and the lines of each loop's body. Each stretch has the list of the buffers it writes, and `main` and the two
  bodies are shown to be their stretches in order.
-/
module

public import proofs.«01_k».proof.Proof.Gen.ReferenceIdeal
public import Idealize.ShloMosaic.Lib.StableHlo.RunLoop
public import Idealize.ShloMosaic.Lib.Pipeline.FrameSuffix

@[expose] public section

noncomputable section

namespace Cert.ReferenceIdeal

open Idealize.ShloMosaic Idealize.ShloMosaic.TcCoe
open Idealize.SL Idealize.SL.RA Idealize.SL.BI
open scoped Idealize.SL.BI
open Idealize.SL.BI.BIBase Idealize.SL.Sem
open Cert.ReferenceIdeal.Gen

variable {F : FTy → Type} [FloatOps F]

/-- Before the first loop: distance `1e10` everywhere, index 0, and the carried buffers filled. -/
abbrev startA : List (HloOp τ sig (Elt F)) :=
  [ StableHlo.nullary main_cst (constant S_ .f32 0x501502F9#32),
    StableHlo.unary main_cst main_v0 (broadcastInDim S4x4096 ![] bcast_S_S4x4096 : (⟨S_, .f32⟩ : BufTy).Contents (Elt F) → (⟨S4x4096, .f32⟩ : BufTy).Contents (Elt F)),
    StableHlo.nullary main_c (constantI S_ 32 0#32),
    StableHlo.unary main_c main_v1 (broadcastInDim S4 ![] bcast_S_S4 : (⟨S_, .i32⟩ : BufTy).Contents (Elt F) → (⟨S4, .i32⟩ : BufTy).Contents (Elt F)),
    StableHlo.nullary main_c_0 (constantI S_ 32 0#32),
    StableHlo.unary main_c_0 main_v2 (broadcastInDim S1023x4 ![] bcast_S_S1023x4 : (⟨S_, .i32⟩ : BufTy).Contents (Elt F) → (⟨S1023x4, .i32⟩ : BufTy).Contents (Elt F)),
    StableHlo.nullary main_c_1 (constantI S_ 32 0#32),
    StableHlo.unary main_arg0 main_v3_0 id,
    StableHlo.unary main_c_1 main_v3_1 id,
    StableHlo.unary main_v0 main_v3_2 id,
    StableHlo.unary main_v1 main_v3_3 id,
    StableHlo.unary main_v2 main_v3_4 id ]
theorem startA_sub : (startA : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- The buffers it writes. -/
abbrev startA_W : List (Ref sig .tc) := [main_cst, main_v0, main_c, main_v1, main_c_0, main_v2, main_c_1, main_v3_0, main_v3_1, main_v3_2, main_v3_3, main_v3_4]
theorem startA_writes : (startA : List (HloOp τ sig (Elt F))).Forall fun op => op.writes ⊆ (startA_W.map (Proc.devRef (τ := τ) .tc)).toFinset :=
  StableHlo.forall_writes_sub_of_map rfl

/-- After the first loop: index 0 put before the 1023 indices the loop chose. -/
abbrev pickA : List (HloOp τ sig (Elt F)) :=
  [ StableHlo.nullary main_c_2 (constantI S_ 32 0#32),
    StableHlo.unary main_c_2 main_v4 (broadcastInDim S1x4 ![] bcast_S_S1x4 : (⟨S_, .i32⟩ : BufTy).Contents (Elt F) → (⟨S1x4, .i32⟩ : BufTy).Contents (Elt F)),
    StableHlo.binary main_v4 main_v3_4 main_v5 ((fun a b => concatenate S1024x4 0 [⟨S1x4, a⟩, ⟨S1023x4, b⟩] concatenates_S1x4_S1023x4_S1024x4_d0) : (⟨S1x4, .i32⟩ : BufTy).Contents (Elt F) → (⟨S1023x4, .i32⟩ : BufTy).Contents (Elt F) → (⟨S1024x4, .i32⟩ : BufTy).Contents (Elt F)),
    StableHlo.unary main_v5 main_v6 ((transpose S4x1024 [1, 0] · transposes_S1024x4_S4x1024_1_0) : (⟨S1024x4, .i32⟩ : BufTy).Contents (Elt F) → (⟨S4x1024, .i32⟩ : BufTy).Contents (Elt F)),
    StableHlo.unary main_v6 main_v7 (broadcastInDim S4x1024x1 ![0, 1] bcast_S4x1024_S4x1024x1_0_1 : (⟨S4x1024, .i32⟩ : BufTy).Contents (Elt F) → (⟨S4x1024x1, .i32⟩ : BufTy).Contents (Elt F)) ]
theorem pickA_sub : (pickA : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub ..⟩
/-- The buffers it writes. -/
abbrev pickA_W : List (Ref sig .tc) := [main_c_2, main_v4, main_v5, main_v6, main_v7]
theorem pickA_writes : (pickA : List (HloOp τ sig (Elt F))).Forall fun op => op.writes ⊆ (pickA_W.map (Proc.devRef (τ := τ) .tc)).toFinset :=
  StableHlo.forall_writes_sub_of_map rfl

/-- The 1024 chosen points are read off the cloud. -/
abbrev takeA : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S4x1024x1, .i32⟩) (broadcastInDim S4x1024x1 ![] bcast_S_S4x1024x1),
    StableHlo.TRef.binary (.of main_v7 : StableHlo.TRef sig ⟨S4x1024x1, .i32⟩) (.of main_call3_v0 : StableHlo.TRef sig ⟨S4x1024x1, .i32⟩) (.of main_call3_v1 : StableHlo.TRef sig ⟨S4x1024x1, .i1⟩) (cmpi .slt),
    StableHlo.TRef.nullary (.of main_call3_c_0 : StableHlo.TRef sig ⟨S_, .i32⟩) (constantI S_ 32 4096#32),
    StableHlo.TRef.unary (.of main_call3_c_0 : StableHlo.TRef sig ⟨S_, .i32⟩) (.of main_call3_v2 : StableHlo.TRef sig ⟨S4x1024x1, .i32⟩) (broadcastInDim S4x1024x1 ![] bcast_S_S4x1024x1),
    StableHlo.TRef.binary (.of main_v7 : StableHlo.TRef sig ⟨S4x1024x1, .i32⟩) (.of main_call3_v2 : StableHlo.TRef sig ⟨S4x1024x1, .i32⟩) (.of main_call3_v3 : StableHlo.TRef sig ⟨S4x1024x1, .i32⟩) addi,
    StableHlo.TRef.ternary (.of main_call3_v1 : StableHlo.TRef sig ⟨S4x1024x1, .i1⟩) (.of main_call3_v3 : StableHlo.TRef sig ⟨S4x1024x1, .i32⟩) (.of main_v7 : StableHlo.TRef sig ⟨S4x1024x1, .i32⟩) (.of main_call3_v4 : StableHlo.TRef sig ⟨S4x1024x1, .i32⟩) select,
    StableHlo.TRef.binary (.of main_arg0 : StableHlo.TRef sig ⟨S4x4096x3, .f32⟩) (.of main_call3_v4 : StableHlo.TRef sig ⟨S4x1024x1, .i32⟩) (.of main_v8 : StableHlo.TRef sig ⟨S4x1024x3, .f32⟩) (fun x i => Host.gather gather_S4x4096x3_S4x1024x1_S4x1024x3_2_1_0_0_1_2_113 x i) ]
theorem takeA_sub : (takeA : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- The buffers it writes. -/
abbrev takeA_W : List (Ref sig .tc) := [main_call3_c, main_call3_v0, main_call3_v1, main_call3_c_0, main_call3_v2, main_call3_v3, main_call3_v4, main_v8]
theorem takeA_writes : (takeA : List (HloOp τ sig (Elt F))).Forall fun op => op.writes ⊆ (takeA_W.map (Proc.devRef (τ := τ) .tc)).toFinset :=
  StableHlo.forall_writes_sub_of_map rfl

/-- Before the second loop: the same start for the 1024 points. -/
abbrev startB : List (HloOp τ sig (Elt F)) :=
  [ StableHlo.nullary main_cst_3 (constant S_ .f32 0x501502F9#32),
    StableHlo.unary main_cst_3 main_v9 (broadcastInDim S4x1024 ![] bcast_S_S4x1024 : (⟨S_, .f32⟩ : BufTy).Contents (Elt F) → (⟨S4x1024, .f32⟩ : BufTy).Contents (Elt F)),
    StableHlo.nullary main_c_4 (constantI S_ 32 0#32),
    StableHlo.unary main_c_4 main_v10 (broadcastInDim S4 ![] bcast_S_S4 : (⟨S_, .i32⟩ : BufTy).Contents (Elt F) → (⟨S4, .i32⟩ : BufTy).Contents (Elt F)),
    StableHlo.nullary main_c_5 (constantI S_ 32 0#32),
    StableHlo.unary main_c_5 main_v11 (broadcastInDim S255x4 ![] bcast_S_S255x4 : (⟨S_, .i32⟩ : BufTy).Contents (Elt F) → (⟨S255x4, .i32⟩ : BufTy).Contents (Elt F)),
    StableHlo.nullary main_c_6 (constantI S_ 32 0#32),
    StableHlo.unary main_v8 main_v12_0 id,
    StableHlo.unary main_c_6 main_v12_1 id,
    StableHlo.unary main_v9 main_v12_2 id,
    StableHlo.unary main_v10 main_v12_3 id,
    StableHlo.unary main_v11 main_v12_4 id ]
theorem startB_sub : (startB : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- The buffers it writes. -/
abbrev startB_W : List (Ref sig .tc) := [main_cst_3, main_v9, main_c_4, main_v10, main_c_5, main_v11, main_c_6, main_v12_0, main_v12_1, main_v12_2, main_v12_3, main_v12_4]
theorem startB_writes : (startB : List (HloOp τ sig (Elt F))).Forall fun op => op.writes ⊆ (startB_W.map (Proc.devRef (τ := τ) .tc)).toFinset :=
  StableHlo.forall_writes_sub_of_map rfl

/-- After the second loop: index 0 put before the 255 indices the loop chose. -/
abbrev pickB : List (HloOp τ sig (Elt F)) :=
  [ StableHlo.nullary main_c_7 (constantI S_ 32 0#32),
    StableHlo.unary main_c_7 main_v13 (broadcastInDim S1x4 ![] bcast_S_S1x4 : (⟨S_, .i32⟩ : BufTy).Contents (Elt F) → (⟨S1x4, .i32⟩ : BufTy).Contents (Elt F)),
    StableHlo.binary main_v13 main_v12_4 main_v14 ((fun a b => concatenate S256x4 0 [⟨S1x4, a⟩, ⟨S255x4, b⟩] concatenates_S1x4_S255x4_S256x4_d0) : (⟨S1x4, .i32⟩ : BufTy).Contents (Elt F) → (⟨S255x4, .i32⟩ : BufTy).Contents (Elt F) → (⟨S256x4, .i32⟩ : BufTy).Contents (Elt F)),
    StableHlo.unary main_v14 main_v15 ((transpose S4x256 [1, 0] · transposes_S256x4_S4x256_1_0) : (⟨S256x4, .i32⟩ : BufTy).Contents (Elt F) → (⟨S4x256, .i32⟩ : BufTy).Contents (Elt F)),
    StableHlo.unary main_v15 main_v16 (broadcastInDim S4x256x1 ![0, 1] bcast_S4x256_S4x256x1_0_1 : (⟨S4x256, .i32⟩ : BufTy).Contents (Elt F) → (⟨S4x256x1, .i32⟩ : BufTy).Contents (Elt F)) ]
theorem pickB_sub : (pickB : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub ..⟩
/-- The buffers it writes. -/
abbrev pickB_W : List (Ref sig .tc) := [main_c_7, main_v13, main_v14, main_v15, main_v16]
theorem pickB_writes : (pickB : List (HloOp τ sig (Elt F))).Forall fun op => op.writes ⊆ (pickB_W.map (Proc.devRef (τ := τ) .tc)).toFinset :=
  StableHlo.forall_writes_sub_of_map rfl

/-- The 256 chosen points are read off the 1024. -/
abbrev takeB : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S4x256x1, .i32⟩) (broadcastInDim S4x256x1 ![] bcast_S_S4x256x1),
    StableHlo.TRef.binary (.of main_v16 : StableHlo.TRef sig ⟨S4x256x1, .i32⟩) (.of main_call7_v0 : StableHlo.TRef sig ⟨S4x256x1, .i32⟩) (.of main_call7_v1 : StableHlo.TRef sig ⟨S4x256x1, .i1⟩) (cmpi .slt),
    StableHlo.TRef.nullary (.of main_call7_c_0 : StableHlo.TRef sig ⟨S_, .i32⟩) (constantI S_ 32 1024#32),
    StableHlo.TRef.unary (.of main_call7_c_0 : StableHlo.TRef sig ⟨S_, .i32⟩) (.of main_call7_v2 : StableHlo.TRef sig ⟨S4x256x1, .i32⟩) (broadcastInDim S4x256x1 ![] bcast_S_S4x256x1),
    StableHlo.TRef.binary (.of main_v16 : StableHlo.TRef sig ⟨S4x256x1, .i32⟩) (.of main_call7_v2 : StableHlo.TRef sig ⟨S4x256x1, .i32⟩) (.of main_call7_v3 : StableHlo.TRef sig ⟨S4x256x1, .i32⟩) addi,
    StableHlo.TRef.ternary (.of main_call7_v1 : StableHlo.TRef sig ⟨S4x256x1, .i1⟩) (.of main_call7_v3 : StableHlo.TRef sig ⟨S4x256x1, .i32⟩) (.of main_v16 : StableHlo.TRef sig ⟨S4x256x1, .i32⟩) (.of main_call7_v4 : StableHlo.TRef sig ⟨S4x256x1, .i32⟩) select,
    StableHlo.TRef.binary (.of main_v8 : StableHlo.TRef sig ⟨S4x1024x3, .f32⟩) (.of main_call7_v4 : StableHlo.TRef sig ⟨S4x256x1, .i32⟩) (.of main_v17 : StableHlo.TRef sig ⟨S4x256x3, .f32⟩) (fun x i => Host.gather gather_S4x1024x3_S4x256x1_S4x256x3_2_1_0_0_1_2_113 x i) ]
theorem takeB_sub : (takeB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- The buffers it writes. -/
abbrev takeB_W : List (Ref sig .tc) := [main_call7_c, main_call7_v0, main_call7_v1, main_call7_c_0, main_call7_v2, main_call7_v3, main_call7_v4, main_v17]
theorem takeB_writes : (takeB : List (HloOp τ sig (Elt F))).Forall fun op => op.writes ⊆ (takeB_W.map (Proc.devRef (τ := τ) .tc)).toFinset :=
  StableHlo.forall_writes_sub_of_map rfl

/-- The first neighbour search and the start of the second. -/
abbrev near0 : List (HloOp τ sig (Elt F)) :=
  [ StableHlo.binary main_arg0 main_arg0 main_v18 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_8 (constant S_ .f32 0x00000000#32),
    StableHlo.binary main_v18 main_cst_8 main_v19 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.unary main_v19 main_v20 (broadcastInDim S4x4096x1 ![0, 1] bcast_S4x4096_S4x4096x1_0_1 : (⟨S4x4096, .f32⟩ : BufTy).Contents (Elt F) → (⟨S4x4096x1, .f32⟩ : BufTy).Contents (Elt F)),
    StableHlo.binary main_arg0 main_arg0 main_v21 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_9 (constant S_ .f32 0x00000000#32),
    StableHlo.binary main_v21 main_cst_9 main_v22 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.unary main_v22 main_v23 (broadcastInDim S4x1x4096 ![0, 2] bcast_S4x4096_S4x1x4096_0_2 : (⟨S4x4096, .f32⟩ : BufTy).Contents (Elt F) → (⟨S4x1x4096, .f32⟩ : BufTy).Contents (Elt F)),
    StableHlo.unary main_v20 main_v24 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.unary main_v23 main_v25 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    StableHlo.binary main_v24 main_v25 main_v26 (addf : (⟨S4x4096x4096, .f32⟩ : BufTy).Contents (Elt F) → (⟨S4x4096x4096, .f32⟩ : BufTy).Contents (Elt F) → (⟨S4x4096x4096, .f32⟩ : BufTy).Contents (Elt F)),
    StableHlo.binary main_arg0 main_arg0 main_v27 ((fun l r => Host.dotGeneral dot_S4x4096x3_S4x4096x3_S4x4096x4096_2_2_1_1_0_0 none l r) : (⟨S4x4096x3, .f32⟩ : BufTy).Contents (Elt F) → (⟨S4x4096x3, .f32⟩ : BufTy).Contents (Elt F) → (⟨S4x4096x4096, .f32⟩ : BufTy).Contents (Elt F)),
    StableHlo.nullary main_cst_10 (constant S_ .f32 0x40000000#32),
    StableHlo.unary main_cst_10 main_v28 (broadcastInDim S4x4096x4096 ![] bcast_S_S4x4096x4096 : (⟨S_, .f32⟩ : BufTy).Contents (Elt F) → (⟨S4x4096x4096, .f32⟩ : BufTy).Contents (Elt F)),
    StableHlo.binary main_v28 main_v27 main_v29 (mulf : (⟨S4x4096x4096, .f32⟩ : BufTy).Contents (Elt F) → (⟨S4x4096x4096, .f32⟩ : BufTy).Contents (Elt F) → (⟨S4x4096x4096, .f32⟩ : BufTy).Contents (Elt F)),
    StableHlo.binary main_v26 main_v29 main_v30 (subf : (⟨S4x4096x4096, .f32⟩ : BufTy).Contents (Elt F) → (⟨S4x4096x4096, .f32⟩ : BufTy).Contents (Elt F) → (⟨S4x4096x4096, .f32⟩ : BufTy).Contents (Elt F)),
    StableHlo.unary main_v30 main_v31 (Host.negf : (⟨S4x4096x4096, .f32⟩ : BufTy).Contents (Elt F) → (⟨S4x4096x4096, .f32⟩ : BufTy).Contents (Elt F)),
    StableHlo.unary main_v31 main_values ((fun x => (Host.topK S4x4096x16 2 (FloatOps.cmpfTotal .gt) x sliceFits_S4x4096x4096_S4x4096x16).1) : (⟨S4x4096x4096, .f32⟩ : BufTy).Contents (Elt F) → (⟨S4x4096x16, .f32⟩ : BufTy).Contents (Elt F)),
    StableHlo.unary main_v31 main_indices ((fun x => (Host.topK S4x4096x16 2 (FloatOps.cmpfTotal .gt) x sliceFits_S4x4096x4096_S4x4096x16).2) : (⟨S4x4096x4096, .f32⟩ : BufTy).Contents (Elt F) → (⟨S4x4096x16, .i32⟩ : BufTy).Contents (Elt F)),
    StableHlo.binary main_v8 main_v8 main_v32 (mulf : (⟨S4x1024x3, .f32⟩ : BufTy).Contents (Elt F) → (⟨S4x1024x3, .f32⟩ : BufTy).Contents (Elt F) → (⟨S4x1024x3, .f32⟩ : BufTy).Contents (Elt F)),
    StableHlo.nullary main_cst_11 (constant S_ .f32 0x00000000#32),
    StableHlo.binary main_v32 main_cst_11 main_v33 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)) ]
theorem near0_sub : (near0 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub ..⟩
/-- The buffers it writes. -/
abbrev near0_W : List (Ref sig .tc) := [main_v18, main_cst_8, main_v19, main_v20, main_v21, main_cst_9, main_v22, main_v23, main_v24, main_v25, main_v26, main_v27, main_cst_10, main_v28, main_v29, main_v30, main_v31, main_values, main_indices, main_v32, main_cst_11, main_v33]
theorem near0_writes : (near0 : List (HloOp τ sig (Elt F))).Forall fun op => op.writes ⊆ (near0_W.map (Proc.devRef (τ := τ) .tc)).toFinset :=
  StableHlo.forall_writes_sub_of_map rfl

/-- Neighbour searches two to four and the start of the fifth. -/
abbrev near1 : List (HloOp τ sig (Elt F)) :=
  [ StableHlo.unary main_v33 main_v34 (broadcastInDim S4x1024x1 ![0, 1] bcast_S4x1024_S4x1024x1_0_1 : (⟨S4x1024, .f32⟩ : BufTy).Contents (Elt F) → (⟨S4x1024x1, .f32⟩ : BufTy).Contents (Elt F)),
    StableHlo.binary main_arg0 main_arg0 main_v35 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_12 (constant S_ .f32 0x00000000#32),
    StableHlo.binary main_v35 main_cst_12 main_v36 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.unary main_v36 main_v37 (broadcastInDim S4x1x4096 ![0, 2] bcast_S4x4096_S4x1x4096_0_2 : (⟨S4x4096, .f32⟩ : BufTy).Contents (Elt F) → (⟨S4x1x4096, .f32⟩ : BufTy).Contents (Elt F)),
    StableHlo.unary main_v34 main_v38 (broadcastInDim S4x1024x4096 ![0, 1, 2] bcast_S4x1024x1_S4x1024x4096_0_1_2 : (⟨S4x1024x1, .f32⟩ : BufTy).Contents (Elt F) → (⟨S4x1024x4096, .f32⟩ : BufTy).Contents (Elt F)),
    StableHlo.unary main_v37 main_v39 (broadcastInDim S4x1024x4096 ![0, 1, 2] bcast_S4x1x4096_S4x1024x4096_0_1_2 : (⟨S4x1x4096, .f32⟩ : BufTy).Contents (Elt F) → (⟨S4x1024x4096, .f32⟩ : BufTy).Contents (Elt F)),
    StableHlo.binary main_v38 main_v39 main_v40 (addf : (⟨S4x1024x4096, .f32⟩ : BufTy).Contents (Elt F) → (⟨S4x1024x4096, .f32⟩ : BufTy).Contents (Elt F) → (⟨S4x1024x4096, .f32⟩ : BufTy).Contents (Elt F)),
    StableHlo.binary main_v8 main_arg0 main_v41 ((fun l r => Host.dotGeneral dot_S4x1024x3_S4x4096x3_S4x1024x4096_2_2_1_1_0_0 none l r) : (⟨S4x1024x3, .f32⟩ : BufTy).Contents (Elt F) → (⟨S4x4096x3, .f32⟩ : BufTy).Contents (Elt F) → (⟨S4x1024x4096, .f32⟩ : BufTy).Contents (Elt F)),
    StableHlo.nullary main_cst_13 (constant S_ .f32 0x40000000#32),
    StableHlo.unary main_cst_13 main_v42 (broadcastInDim S4x1024x4096 ![] bcast_S_S4x1024x4096 : (⟨S_, .f32⟩ : BufTy).Contents (Elt F) → (⟨S4x1024x4096, .f32⟩ : BufTy).Contents (Elt F)),
    StableHlo.binary main_v42 main_v41 main_v43 (mulf : (⟨S4x1024x4096, .f32⟩ : BufTy).Contents (Elt F) → (⟨S4x1024x4096, .f32⟩ : BufTy).Contents (Elt F) → (⟨S4x1024x4096, .f32⟩ : BufTy).Contents (Elt F)),
    StableHlo.binary main_v40 main_v43 main_v44 (subf : (⟨S4x1024x4096, .f32⟩ : BufTy).Contents (Elt F) → (⟨S4x1024x4096, .f32⟩ : BufTy).Contents (Elt F) → (⟨S4x1024x4096, .f32⟩ : BufTy).Contents (Elt F)),
    StableHlo.unary main_v44 main_v45 (Host.negf : (⟨S4x1024x4096, .f32⟩ : BufTy).Contents (Elt F) → (⟨S4x1024x4096, .f32⟩ : BufTy).Contents (Elt F)),
    StableHlo.unary main_v45 main_values_14 ((fun x => (Host.topK S4x1024x16 2 (FloatOps.cmpfTotal .gt) x sliceFits_S4x1024x4096_S4x1024x16).1) : (⟨S4x1024x4096, .f32⟩ : BufTy).Contents (Elt F) → (⟨S4x1024x16, .f32⟩ : BufTy).Contents (Elt F)),
    StableHlo.unary main_v45 main_indices_15 ((fun x => (Host.topK S4x1024x16 2 (FloatOps.cmpfTotal .gt) x sliceFits_S4x1024x4096_S4x1024x16).2) : (⟨S4x1024x4096, .f32⟩ : BufTy).Contents (Elt F) → (⟨S4x1024x16, .i32⟩ : BufTy).Contents (Elt F)),
    StableHlo.binary main_arg0 main_arg0 main_v46 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_16 (constant S_ .f32 0x00000000#32),
    StableHlo.binary main_v46 main_cst_16 main_v47 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.unary main_v47 main_v48 (broadcastInDim S4x4096x1 ![0, 1] bcast_S4x4096_S4x4096x1_0_1 : (⟨S4x4096, .f32⟩ : BufTy).Contents (Elt F) → (⟨S4x4096x1, .f32⟩ : BufTy).Contents (Elt F)),
    StableHlo.binary main_v8 main_v8 main_v49 (mulf : (⟨S4x1024x3, .f32⟩ : BufTy).Contents (Elt F) → (⟨S4x1024x3, .f32⟩ : BufTy).Contents (Elt F) → (⟨S4x1024x3, .f32⟩ : BufTy).Contents (Elt F)),
    StableHlo.nullary main_cst_17 (constant S_ .f32 0x00000000#32),
    StableHlo.binary main_v49 main_cst_17 main_v50 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    StableHlo.unary main_v50 main_v51 (broadcastInDim S4x1x1024 ![0, 2] bcast_S4x1024_S4x1x1024_0_2 : (⟨S4x1024, .f32⟩ : BufTy).Contents (Elt F) → (⟨S4x1x1024, .f32⟩ : BufTy).Contents (Elt F)),
    StableHlo.unary main_v48 main_v52 (broadcastInDim S4x4096x1024 ![0, 1, 2] bcast_S4x4096x1_S4x4096x1024_0_1_2 : (⟨S4x4096x1, .f32⟩ : BufTy).Contents (Elt F) → (⟨S4x4096x1024, .f32⟩ : BufTy).Contents (Elt F)),
    StableHlo.unary main_v51 main_v53 (broadcastInDim S4x4096x1024 ![0, 1, 2] bcast_S4x1x1024_S4x4096x1024_0_1_2 : (⟨S4x1x1024, .f32⟩ : BufTy).Contents (Elt F) → (⟨S4x4096x1024, .f32⟩ : BufTy).Contents (Elt F)),
    StableHlo.binary main_v52 main_v53 main_v54 (addf : (⟨S4x4096x1024, .f32⟩ : BufTy).Contents (Elt F) → (⟨S4x4096x1024, .f32⟩ : BufTy).Contents (Elt F) → (⟨S4x4096x1024, .f32⟩ : BufTy).Contents (Elt F)),
    StableHlo.binary main_arg0 main_v8 main_v55 ((fun l r => Host.dotGeneral dot_S4x4096x3_S4x1024x3_S4x4096x1024_2_2_1_1_0_0 none l r) : (⟨S4x4096x3, .f32⟩ : BufTy).Contents (Elt F) → (⟨S4x1024x3, .f32⟩ : BufTy).Contents (Elt F) → (⟨S4x4096x1024, .f32⟩ : BufTy).Contents (Elt F)),
    StableHlo.nullary main_cst_18 (constant S_ .f32 0x40000000#32),
    StableHlo.unary main_cst_18 main_v56 (broadcastInDim S4x4096x1024 ![] bcast_S_S4x4096x1024 : (⟨S_, .f32⟩ : BufTy).Contents (Elt F) → (⟨S4x4096x1024, .f32⟩ : BufTy).Contents (Elt F)),
    StableHlo.binary main_v56 main_v55 main_v57 (mulf : (⟨S4x4096x1024, .f32⟩ : BufTy).Contents (Elt F) → (⟨S4x4096x1024, .f32⟩ : BufTy).Contents (Elt F) → (⟨S4x4096x1024, .f32⟩ : BufTy).Contents (Elt F)),
    StableHlo.binary main_v54 main_v57 main_v58 (subf : (⟨S4x4096x1024, .f32⟩ : BufTy).Contents (Elt F) → (⟨S4x4096x1024, .f32⟩ : BufTy).Contents (Elt F) → (⟨S4x4096x1024, .f32⟩ : BufTy).Contents (Elt F)),
    StableHlo.unary main_v58 main_v59 (Host.negf : (⟨S4x4096x1024, .f32⟩ : BufTy).Contents (Elt F) → (⟨S4x4096x1024, .f32⟩ : BufTy).Contents (Elt F)),
    StableHlo.unary main_v59 main_values_19 ((fun x => (Host.topK S4x4096x16 2 (FloatOps.cmpfTotal .gt) x sliceFits_S4x4096x1024_S4x4096x16).1) : (⟨S4x4096x1024, .f32⟩ : BufTy).Contents (Elt F) → (⟨S4x4096x16, .f32⟩ : BufTy).Contents (Elt F)),
    StableHlo.unary main_v59 main_indices_20 ((fun x => (Host.topK S4x4096x16 2 (FloatOps.cmpfTotal .gt) x sliceFits_S4x4096x1024_S4x4096x16).2) : (⟨S4x4096x1024, .f32⟩ : BufTy).Contents (Elt F) → (⟨S4x4096x16, .i32⟩ : BufTy).Contents (Elt F)),
    StableHlo.binary main_v8 main_v8 main_v60 (mulf : (⟨S4x1024x3, .f32⟩ : BufTy).Contents (Elt F) → (⟨S4x1024x3, .f32⟩ : BufTy).Contents (Elt F) → (⟨S4x1024x3, .f32⟩ : BufTy).Contents (Elt F)),
    StableHlo.nullary main_cst_21 (constant S_ .f32 0x00000000#32),
    StableHlo.binary main_v60 main_cst_21 main_v61 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    StableHlo.unary main_v61 main_v62 (broadcastInDim S4x1024x1 ![0, 1] bcast_S4x1024_S4x1024x1_0_1 : (⟨S4x1024, .f32⟩ : BufTy).Contents (Elt F) → (⟨S4x1024x1, .f32⟩ : BufTy).Contents (Elt F)),
    StableHlo.binary main_v8 main_v8 main_v63 (mulf : (⟨S4x1024x3, .f32⟩ : BufTy).Contents (Elt F) → (⟨S4x1024x3, .f32⟩ : BufTy).Contents (Elt F) → (⟨S4x1024x3, .f32⟩ : BufTy).Contents (Elt F)),
    StableHlo.nullary main_cst_22 (constant S_ .f32 0x00000000#32),
    StableHlo.binary main_v63 main_cst_22 main_v64 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    StableHlo.unary main_v64 main_v65 (broadcastInDim S4x1x1024 ![0, 2] bcast_S4x1024_S4x1x1024_0_2 : (⟨S4x1024, .f32⟩ : BufTy).Contents (Elt F) → (⟨S4x1x1024, .f32⟩ : BufTy).Contents (Elt F)),
    StableHlo.unary main_v62 main_v66 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    StableHlo.unary main_v65 main_v67 (broadcastInDim S4x1024x1024 ![0, 1, 2] bcast_S4x1x1024_S4x1024x1024_0_1_2 : (⟨S4x1x1024, .f32⟩ : BufTy).Contents (Elt F) → (⟨S4x1024x1024, .f32⟩ : BufTy).Contents (Elt F)),
    StableHlo.binary main_v66 main_v67 main_v68 (addf : (⟨S4x1024x1024, .f32⟩ : BufTy).Contents (Elt F) → (⟨S4x1024x1024, .f32⟩ : BufTy).Contents (Elt F) → (⟨S4x1024x1024, .f32⟩ : BufTy).Contents (Elt F)),
    StableHlo.binary main_v8 main_v8 main_v69 ((fun l r => Host.dotGeneral dot_S4x1024x3_S4x1024x3_S4x1024x1024_2_2_1_1_0_0 none l r) : (⟨S4x1024x3, .f32⟩ : BufTy).Contents (Elt F) → (⟨S4x1024x3, .f32⟩ : BufTy).Contents (Elt F) → (⟨S4x1024x1024, .f32⟩ : BufTy).Contents (Elt F)),
    StableHlo.nullary main_cst_23 (constant S_ .f32 0x40000000#32),
    StableHlo.unary main_cst_23 main_v70 (broadcastInDim S4x1024x1024 ![] bcast_S_S4x1024x1024 : (⟨S_, .f32⟩ : BufTy).Contents (Elt F) → (⟨S4x1024x1024, .f32⟩ : BufTy).Contents (Elt F)),
    StableHlo.binary main_v70 main_v69 main_v71 (mulf : (⟨S4x1024x1024, .f32⟩ : BufTy).Contents (Elt F) → (⟨S4x1024x1024, .f32⟩ : BufTy).Contents (Elt F) → (⟨S4x1024x1024, .f32⟩ : BufTy).Contents (Elt F)),
    StableHlo.binary main_v68 main_v71 main_v72 (subf : (⟨S4x1024x1024, .f32⟩ : BufTy).Contents (Elt F) → (⟨S4x1024x1024, .f32⟩ : BufTy).Contents (Elt F) → (⟨S4x1024x1024, .f32⟩ : BufTy).Contents (Elt F)),
    StableHlo.unary main_v72 main_v73 (Host.negf : (⟨S4x1024x1024, .f32⟩ : BufTy).Contents (Elt F) → (⟨S4x1024x1024, .f32⟩ : BufTy).Contents (Elt F)),
    StableHlo.unary main_v73 main_values_24 ((fun x => (Host.topK S4x1024x16 2 (FloatOps.cmpfTotal .gt) x sliceFits_S4x1024x1024_S4x1024x16).1) : (⟨S4x1024x1024, .f32⟩ : BufTy).Contents (Elt F) → (⟨S4x1024x16, .f32⟩ : BufTy).Contents (Elt F)),
    StableHlo.unary main_v73 main_indices_25 ((fun x => (Host.topK S4x1024x16 2 (FloatOps.cmpfTotal .gt) x sliceFits_S4x1024x1024_S4x1024x16).2) : (⟨S4x1024x1024, .f32⟩ : BufTy).Contents (Elt F) → (⟨S4x1024x16, .i32⟩ : BufTy).Contents (Elt F)),
    StableHlo.binary main_v17 main_v17 main_v74 (mulf : (⟨S4x256x3, .f32⟩ : BufTy).Contents (Elt F) → (⟨S4x256x3, .f32⟩ : BufTy).Contents (Elt F) → (⟨S4x256x3, .f32⟩ : BufTy).Contents (Elt F)),
    StableHlo.nullary main_cst_26 (constant S_ .f32 0x00000000#32),
    StableHlo.binary main_v74 main_cst_26 main_v75 ((fun x v => Host.reduceAdd x v reducesTo_S4x256x3_S4x256_d2 h_S_) : (⟨S4x256x3, .f32⟩ : BufTy).Contents (Elt F) → (⟨S_, .f32⟩ : BufTy).Contents (Elt F) → (⟨S4x256, .f32⟩ : BufTy).Contents (Elt F)),
    StableHlo.unary main_v75 main_v76 (broadcastInDim S4x256x1 ![0, 1] bcast_S4x256_S4x256x1_0_1 : (⟨S4x256, .f32⟩ : BufTy).Contents (Elt F) → (⟨S4x256x1, .f32⟩ : BufTy).Contents (Elt F)),
    StableHlo.binary main_v8 main_v8 main_v77 (mulf : (⟨S4x1024x3, .f32⟩ : BufTy).Contents (Elt F) → (⟨S4x1024x3, .f32⟩ : BufTy).Contents (Elt F) → (⟨S4x1024x3, .f32⟩ : BufTy).Contents (Elt F)),
    StableHlo.nullary main_cst_27 (constant S_ .f32 0x00000000#32) ]
theorem near1_sub : (near1 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub ..⟩
/-- The buffers it writes. -/
abbrev near1_W : List (Ref sig .tc) := [main_v34, main_v35, main_cst_12, main_v36, main_v37, main_v38, main_v39, main_v40, main_v41, main_cst_13, main_v42, main_v43, main_v44, main_v45, main_values_14, main_indices_15, main_v46, main_cst_16, main_v47, main_v48, main_v49, main_cst_17, main_v50, main_v51, main_v52, main_v53, main_v54, main_v55, main_cst_18, main_v56, main_v57, main_v58, main_v59, main_values_19, main_indices_20, main_v60, main_cst_21, main_v61, main_v62, main_v63, main_cst_22, main_v64, main_v65, main_v66, main_v67, main_v68, main_v69, main_cst_23, main_v70, main_v71, main_v72, main_v73, main_values_24, main_indices_25, main_v74, main_cst_26, main_v75, main_v76, main_v77, main_cst_27]
theorem near1_writes : (near1 : List (HloOp τ sig (Elt F))).Forall fun op => op.writes ⊆ (near1_W.map (Proc.devRef (τ := τ) .tc)).toFinset :=
  StableHlo.forall_writes_sub_of_map rfl

/-- The rest of the fifth neighbour search, and the sixth and the seventh. -/
abbrev near2 : List (HloOp τ sig (Elt F)) :=
  [ StableHlo.binary main_v77 main_cst_27 main_v78 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    StableHlo.unary main_v78 main_v79 (broadcastInDim S4x1x1024 ![0, 2] bcast_S4x1024_S4x1x1024_0_2 : (⟨S4x1024, .f32⟩ : BufTy).Contents (Elt F) → (⟨S4x1x1024, .f32⟩ : BufTy).Contents (Elt F)),
    StableHlo.unary main_v76 main_v80 (broadcastInDim S4x256x1024 ![0, 1, 2] bcast_S4x256x1_S4x256x1024_0_1_2 : (⟨S4x256x1, .f32⟩ : BufTy).Contents (Elt F) → (⟨S4x256x1024, .f32⟩ : BufTy).Contents (Elt F)),
    StableHlo.unary main_v79 main_v81 (broadcastInDim S4x256x1024 ![0, 1, 2] bcast_S4x1x1024_S4x256x1024_0_1_2 : (⟨S4x1x1024, .f32⟩ : BufTy).Contents (Elt F) → (⟨S4x256x1024, .f32⟩ : BufTy).Contents (Elt F)),
    StableHlo.binary main_v80 main_v81 main_v82 (addf : (⟨S4x256x1024, .f32⟩ : BufTy).Contents (Elt F) → (⟨S4x256x1024, .f32⟩ : BufTy).Contents (Elt F) → (⟨S4x256x1024, .f32⟩ : BufTy).Contents (Elt F)),
    StableHlo.binary main_v17 main_v8 main_v83 ((fun l r => Host.dotGeneral dot_S4x256x3_S4x1024x3_S4x256x1024_2_2_1_1_0_0 none l r) : (⟨S4x256x3, .f32⟩ : BufTy).Contents (Elt F) → (⟨S4x1024x3, .f32⟩ : BufTy).Contents (Elt F) → (⟨S4x256x1024, .f32⟩ : BufTy).Contents (Elt F)),
    StableHlo.nullary main_cst_28 (constant S_ .f32 0x40000000#32),
    StableHlo.unary main_cst_28 main_v84 (broadcastInDim S4x256x1024 ![] bcast_S_S4x256x1024 : (⟨S_, .f32⟩ : BufTy).Contents (Elt F) → (⟨S4x256x1024, .f32⟩ : BufTy).Contents (Elt F)),
    StableHlo.binary main_v84 main_v83 main_v85 (mulf : (⟨S4x256x1024, .f32⟩ : BufTy).Contents (Elt F) → (⟨S4x256x1024, .f32⟩ : BufTy).Contents (Elt F) → (⟨S4x256x1024, .f32⟩ : BufTy).Contents (Elt F)),
    StableHlo.binary main_v82 main_v85 main_v86 (subf : (⟨S4x256x1024, .f32⟩ : BufTy).Contents (Elt F) → (⟨S4x256x1024, .f32⟩ : BufTy).Contents (Elt F) → (⟨S4x256x1024, .f32⟩ : BufTy).Contents (Elt F)),
    StableHlo.unary main_v86 main_v87 (Host.negf : (⟨S4x256x1024, .f32⟩ : BufTy).Contents (Elt F) → (⟨S4x256x1024, .f32⟩ : BufTy).Contents (Elt F)),
    StableHlo.unary main_v87 main_values_29 ((fun x => (Host.topK S4x256x16 2 (FloatOps.cmpfTotal .gt) x sliceFits_S4x256x1024_S4x256x16).1) : (⟨S4x256x1024, .f32⟩ : BufTy).Contents (Elt F) → (⟨S4x256x16, .f32⟩ : BufTy).Contents (Elt F)),
    StableHlo.unary main_v87 main_indices_30 ((fun x => (Host.topK S4x256x16 2 (FloatOps.cmpfTotal .gt) x sliceFits_S4x256x1024_S4x256x16).2) : (⟨S4x256x1024, .f32⟩ : BufTy).Contents (Elt F) → (⟨S4x256x16, .i32⟩ : BufTy).Contents (Elt F)),
    StableHlo.binary main_v8 main_v8 main_v88 (mulf : (⟨S4x1024x3, .f32⟩ : BufTy).Contents (Elt F) → (⟨S4x1024x3, .f32⟩ : BufTy).Contents (Elt F) → (⟨S4x1024x3, .f32⟩ : BufTy).Contents (Elt F)),
    StableHlo.nullary main_cst_31 (constant S_ .f32 0x00000000#32),
    StableHlo.binary main_v88 main_cst_31 main_v89 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    StableHlo.unary main_v89 main_v90 (broadcastInDim S4x1024x1 ![0, 1] bcast_S4x1024_S4x1024x1_0_1 : (⟨S4x1024, .f32⟩ : BufTy).Contents (Elt F) → (⟨S4x1024x1, .f32⟩ : BufTy).Contents (Elt F)),
    StableHlo.binary main_v17 main_v17 main_v91 (mulf : (⟨S4x256x3, .f32⟩ : BufTy).Contents (Elt F) → (⟨S4x256x3, .f32⟩ : BufTy).Contents (Elt F) → (⟨S4x256x3, .f32⟩ : BufTy).Contents (Elt F)),
    StableHlo.nullary main_cst_32 (constant S_ .f32 0x00000000#32),
    StableHlo.binary main_v91 main_cst_32 main_v92 ((fun x v => Host.reduceAdd x v reducesTo_S4x256x3_S4x256_d2 h_S_) : (⟨S4x256x3, .f32⟩ : BufTy).Contents (Elt F) → (⟨S_, .f32⟩ : BufTy).Contents (Elt F) → (⟨S4x256, .f32⟩ : BufTy).Contents (Elt F)),
    StableHlo.unary main_v92 main_v93 (broadcastInDim S4x1x256 ![0, 2] bcast_S4x256_S4x1x256_0_2 : (⟨S4x256, .f32⟩ : BufTy).Contents (Elt F) → (⟨S4x1x256, .f32⟩ : BufTy).Contents (Elt F)),
    StableHlo.unary main_v90 main_v94 (broadcastInDim S4x1024x256 ![0, 1, 2] bcast_S4x1024x1_S4x1024x256_0_1_2 : (⟨S4x1024x1, .f32⟩ : BufTy).Contents (Elt F) → (⟨S4x1024x256, .f32⟩ : BufTy).Contents (Elt F)),
    StableHlo.unary main_v93 main_v95 (broadcastInDim S4x1024x256 ![0, 1, 2] bcast_S4x1x256_S4x1024x256_0_1_2 : (⟨S4x1x256, .f32⟩ : BufTy).Contents (Elt F) → (⟨S4x1024x256, .f32⟩ : BufTy).Contents (Elt F)),
    StableHlo.binary main_v94 main_v95 main_v96 (addf : (⟨S4x1024x256, .f32⟩ : BufTy).Contents (Elt F) → (⟨S4x1024x256, .f32⟩ : BufTy).Contents (Elt F) → (⟨S4x1024x256, .f32⟩ : BufTy).Contents (Elt F)),
    StableHlo.binary main_v8 main_v17 main_v97 ((fun l r => Host.dotGeneral dot_S4x1024x3_S4x256x3_S4x1024x256_2_2_1_1_0_0 none l r) : (⟨S4x1024x3, .f32⟩ : BufTy).Contents (Elt F) → (⟨S4x256x3, .f32⟩ : BufTy).Contents (Elt F) → (⟨S4x1024x256, .f32⟩ : BufTy).Contents (Elt F)),
    StableHlo.nullary main_cst_33 (constant S_ .f32 0x40000000#32),
    StableHlo.unary main_cst_33 main_v98 (broadcastInDim S4x1024x256 ![] bcast_S_S4x1024x256 : (⟨S_, .f32⟩ : BufTy).Contents (Elt F) → (⟨S4x1024x256, .f32⟩ : BufTy).Contents (Elt F)),
    StableHlo.binary main_v98 main_v97 main_v99 (mulf : (⟨S4x1024x256, .f32⟩ : BufTy).Contents (Elt F) → (⟨S4x1024x256, .f32⟩ : BufTy).Contents (Elt F) → (⟨S4x1024x256, .f32⟩ : BufTy).Contents (Elt F)),
    StableHlo.binary main_v96 main_v99 main_v100 (subf : (⟨S4x1024x256, .f32⟩ : BufTy).Contents (Elt F) → (⟨S4x1024x256, .f32⟩ : BufTy).Contents (Elt F) → (⟨S4x1024x256, .f32⟩ : BufTy).Contents (Elt F)),
    StableHlo.unary main_v100 main_v101 (Host.negf : (⟨S4x1024x256, .f32⟩ : BufTy).Contents (Elt F) → (⟨S4x1024x256, .f32⟩ : BufTy).Contents (Elt F)),
    StableHlo.unary main_v101 main_values_34 ((fun x => (Host.topK S4x1024x16 2 (FloatOps.cmpfTotal .gt) x sliceFits_S4x1024x256_S4x1024x16).1) : (⟨S4x1024x256, .f32⟩ : BufTy).Contents (Elt F) → (⟨S4x1024x16, .f32⟩ : BufTy).Contents (Elt F)),
    StableHlo.unary main_v101 main_indices_35 ((fun x => (Host.topK S4x1024x16 2 (FloatOps.cmpfTotal .gt) x sliceFits_S4x1024x256_S4x1024x16).2) : (⟨S4x1024x256, .f32⟩ : BufTy).Contents (Elt F) → (⟨S4x1024x16, .i32⟩ : BufTy).Contents (Elt F)),
    StableHlo.binary main_v17 main_v17 main_v102 (mulf : (⟨S4x256x3, .f32⟩ : BufTy).Contents (Elt F) → (⟨S4x256x3, .f32⟩ : BufTy).Contents (Elt F) → (⟨S4x256x3, .f32⟩ : BufTy).Contents (Elt F)),
    StableHlo.nullary main_cst_36 (constant S_ .f32 0x00000000#32),
    StableHlo.binary main_v102 main_cst_36 main_v103 ((fun x v => Host.reduceAdd x v reducesTo_S4x256x3_S4x256_d2 h_S_) : (⟨S4x256x3, .f32⟩ : BufTy).Contents (Elt F) → (⟨S_, .f32⟩ : BufTy).Contents (Elt F) → (⟨S4x256, .f32⟩ : BufTy).Contents (Elt F)),
    StableHlo.unary main_v103 main_v104 (broadcastInDim S4x256x1 ![0, 1] bcast_S4x256_S4x256x1_0_1 : (⟨S4x256, .f32⟩ : BufTy).Contents (Elt F) → (⟨S4x256x1, .f32⟩ : BufTy).Contents (Elt F)),
    StableHlo.binary main_v17 main_v17 main_v105 (mulf : (⟨S4x256x3, .f32⟩ : BufTy).Contents (Elt F) → (⟨S4x256x3, .f32⟩ : BufTy).Contents (Elt F) → (⟨S4x256x3, .f32⟩ : BufTy).Contents (Elt F)),
    StableHlo.nullary main_cst_37 (constant S_ .f32 0x00000000#32),
    StableHlo.binary main_v105 main_cst_37 main_v106 ((fun x v => Host.reduceAdd x v reducesTo_S4x256x3_S4x256_d2 h_S_) : (⟨S4x256x3, .f32⟩ : BufTy).Contents (Elt F) → (⟨S_, .f32⟩ : BufTy).Contents (Elt F) → (⟨S4x256, .f32⟩ : BufTy).Contents (Elt F)),
    StableHlo.unary main_v106 main_v107 (broadcastInDim S4x1x256 ![0, 2] bcast_S4x256_S4x1x256_0_2 : (⟨S4x256, .f32⟩ : BufTy).Contents (Elt F) → (⟨S4x1x256, .f32⟩ : BufTy).Contents (Elt F)),
    StableHlo.unary main_v104 main_v108 (broadcastInDim S4x256x256 ![0, 1, 2] bcast_S4x256x1_S4x256x256_0_1_2 : (⟨S4x256x1, .f32⟩ : BufTy).Contents (Elt F) → (⟨S4x256x256, .f32⟩ : BufTy).Contents (Elt F)),
    StableHlo.unary main_v107 main_v109 (broadcastInDim S4x256x256 ![0, 1, 2] bcast_S4x1x256_S4x256x256_0_1_2 : (⟨S4x1x256, .f32⟩ : BufTy).Contents (Elt F) → (⟨S4x256x256, .f32⟩ : BufTy).Contents (Elt F)),
    StableHlo.binary main_v108 main_v109 main_v110 (addf : (⟨S4x256x256, .f32⟩ : BufTy).Contents (Elt F) → (⟨S4x256x256, .f32⟩ : BufTy).Contents (Elt F) → (⟨S4x256x256, .f32⟩ : BufTy).Contents (Elt F)),
    StableHlo.binary main_v17 main_v17 main_v111 ((fun l r => Host.dotGeneral dot_S4x256x3_S4x256x3_S4x256x256_2_2_1_1_0_0 none l r) : (⟨S4x256x3, .f32⟩ : BufTy).Contents (Elt F) → (⟨S4x256x3, .f32⟩ : BufTy).Contents (Elt F) → (⟨S4x256x256, .f32⟩ : BufTy).Contents (Elt F)),
    StableHlo.nullary main_cst_38 (constant S_ .f32 0x40000000#32),
    StableHlo.unary main_cst_38 main_v112 (broadcastInDim S4x256x256 ![] bcast_S_S4x256x256 : (⟨S_, .f32⟩ : BufTy).Contents (Elt F) → (⟨S4x256x256, .f32⟩ : BufTy).Contents (Elt F)),
    StableHlo.binary main_v112 main_v111 main_v113 (mulf : (⟨S4x256x256, .f32⟩ : BufTy).Contents (Elt F) → (⟨S4x256x256, .f32⟩ : BufTy).Contents (Elt F) → (⟨S4x256x256, .f32⟩ : BufTy).Contents (Elt F)),
    StableHlo.binary main_v110 main_v113 main_v114 (subf : (⟨S4x256x256, .f32⟩ : BufTy).Contents (Elt F) → (⟨S4x256x256, .f32⟩ : BufTy).Contents (Elt F) → (⟨S4x256x256, .f32⟩ : BufTy).Contents (Elt F)),
    StableHlo.unary main_v114 main_v115 (Host.negf : (⟨S4x256x256, .f32⟩ : BufTy).Contents (Elt F) → (⟨S4x256x256, .f32⟩ : BufTy).Contents (Elt F)),
    StableHlo.unary main_v115 main_values_39 ((fun x => (Host.topK S4x256x16 2 (FloatOps.cmpfTotal .gt) x sliceFits_S4x256x256_S4x256x16).1) : (⟨S4x256x256, .f32⟩ : BufTy).Contents (Elt F) → (⟨S4x256x16, .f32⟩ : BufTy).Contents (Elt F)),
    StableHlo.unary main_v115 main_indices_40 ((fun x => (Host.topK S4x256x16 2 (FloatOps.cmpfTotal .gt) x sliceFits_S4x256x256_S4x256x16).2) : (⟨S4x256x256, .f32⟩ : BufTy).Contents (Elt F) → (⟨S4x256x16, .i32⟩ : BufTy).Contents (Elt F)) ]
theorem near2_sub : (near2 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub ..⟩
/-- The buffers it writes. -/
abbrev near2_W : List (Ref sig .tc) := [main_v78, main_v79, main_v80, main_v81, main_v82, main_v83, main_cst_28, main_v84, main_v85, main_v86, main_v87, main_values_29, main_indices_30, main_v88, main_cst_31, main_v89, main_v90, main_v91, main_cst_32, main_v92, main_v93, main_v94, main_v95, main_v96, main_v97, main_cst_33, main_v98, main_v99, main_v100, main_v101, main_values_34, main_indices_35, main_v102, main_cst_36, main_v103, main_v104, main_v105, main_cst_37, main_v106, main_v107, main_v108, main_v109, main_v110, main_v111, main_cst_38, main_v112, main_v113, main_v114, main_v115, main_values_39, main_indices_40]
theorem near2_writes : (near2 : List (HloOp τ sig (Elt F))).Forall fun op => op.writes ⊆ (near2_W.map (Proc.devRef (τ := τ) .tc)).toFinset :=
  StableHlo.forall_writes_sub_of_map rfl

/-- The last chosen index, with two unit axes. -/
abbrev loopA0 : List (HloOp τ sig (Elt F)) :=
  [ StableHlo.unary main_v3_3 main_while0b_v116 (broadcastInDim S4x1x1 ![0] bcast_S4_S4x1x1_0 : (⟨S4, .i32⟩ : BufTy).Contents (Elt F) → (⟨S4x1x1, .i32⟩ : BufTy).Contents (Elt F)) ]
theorem loopA0_sub : (loopA0 : List (HloOp τ sig (Elt F))).Forall fun op => op.bufs ⊆ StableHlo.tcRefs τ sig :=
  StableHlo.unary_bufs_sub ..
/-- The buffers it writes. -/
abbrev loopA0_W : List (Ref sig .tc) := [main_while0b_v116]
theorem loopA0_writes : (loopA0 : List (HloOp τ sig (Elt F))).Forall fun op => op.writes ⊆ (loopA0_W.map (Proc.devRef (τ := τ) .tc)).toFinset :=
  StableHlo.forall_writes_sub_of_map rfl

/-- The last chosen point is read off the points. -/
abbrev loopA1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S4x1x1, .i32⟩) (broadcastInDim S4x1x1 ![] bcast_S_S4x1x1),
    StableHlo.TRef.binary (.of main_while0b_v116 : StableHlo.TRef sig ⟨S4x1x1, .i32⟩) (.of main_while0b_call0_v0 : StableHlo.TRef sig ⟨S4x1x1, .i32⟩) (.of main_while0b_call0_v1 : StableHlo.TRef sig ⟨S4x1x1, .i1⟩) (cmpi .slt),
    StableHlo.TRef.nullary (.of main_while0b_call0_c_0 : StableHlo.TRef sig ⟨S_, .i32⟩) (constantI S_ 32 4096#32),
    StableHlo.TRef.unary (.of main_while0b_call0_c_0 : StableHlo.TRef sig ⟨S_, .i32⟩) (.of main_while0b_call0_v2 : StableHlo.TRef sig ⟨S4x1x1, .i32⟩) (broadcastInDim S4x1x1 ![] bcast_S_S4x1x1),
    StableHlo.TRef.binary (.of main_while0b_v116 : StableHlo.TRef sig ⟨S4x1x1, .i32⟩) (.of main_while0b_call0_v2 : StableHlo.TRef sig ⟨S4x1x1, .i32⟩) (.of main_while0b_call0_v3 : StableHlo.TRef sig ⟨S4x1x1, .i32⟩) addi,
    StableHlo.TRef.ternary (.of main_while0b_call0_v1 : StableHlo.TRef sig ⟨S4x1x1, .i1⟩) (.of main_while0b_call0_v3 : StableHlo.TRef sig ⟨S4x1x1, .i32⟩) (.of main_while0b_v116 : StableHlo.TRef sig ⟨S4x1x1, .i32⟩) (.of main_while0b_call0_v4 : StableHlo.TRef sig ⟨S4x1x1, .i32⟩) select,
    StableHlo.TRef.binary (.of main_v3_0 : StableHlo.TRef sig ⟨S4x4096x3, .f32⟩) (.of main_while0b_call0_v4 : StableHlo.TRef sig ⟨S4x1x1, .i32⟩) (.of main_while0b_v117 : StableHlo.TRef sig ⟨S4x1x3, .f32⟩) (fun x i => Host.gather gather_S4x4096x3_S4x1x1_S4x1x3_2_1_0_0_1_2_113 x i) ]
theorem loopA1_sub : (loopA1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- The buffers it writes. -/
abbrev loopA1_W : List (Ref sig .tc) := [main_while0b_call0_c, main_while0b_call0_v0, main_while0b_call0_v1, main_while0b_call0_c_0, main_while0b_call0_v2, main_while0b_call0_v3, main_while0b_call0_v4, main_while0b_v117]
theorem loopA1_writes : (loopA1 : List (HloOp τ sig (Elt F))).Forall fun op => op.writes ⊆ (loopA1_W.map (Proc.devRef (τ := τ) .tc)).toFinset :=
  StableHlo.forall_writes_sub_of_map rfl

/-- The squared distances to it, and the minimum with the distances so far. -/
abbrev loopA2 : List (HloOp τ sig (Elt F)) :=
  [ StableHlo.unary main_while0b_v117 main_while0b_v118 (broadcastInDim S4x4096x3 ![0, 1, 2] bcast_S4x1x3_S4x4096x3_0_1_2 : (⟨S4x1x3, .f32⟩ : BufTy).Contents (Elt F) → (⟨S4x4096x3, .f32⟩ : BufTy).Contents (Elt F)),
    StableHlo.binary main_v3_0 main_while0b_v118 main_while0b_v119 (subf : (⟨S4x4096x3, .f32⟩ : BufTy).Contents (Elt F) → (⟨S4x4096x3, .f32⟩ : BufTy).Contents (Elt F) → (⟨S4x4096x3, .f32⟩ : BufTy).Contents (Elt F)),
    StableHlo.binary main_while0b_v119 main_while0b_v119 main_while0b_v120 (mulf : (⟨S4x4096x3, .f32⟩ : BufTy).Contents (Elt F) → (⟨S4x4096x3, .f32⟩ : BufTy).Contents (Elt F) → (⟨S4x4096x3, .f32⟩ : BufTy).Contents (Elt F)),
    StableHlo.nullary main_while0b_cst_45 (constant S_ .f32 0x00000000#32),
    StableHlo.binary main_while0b_v120 main_while0b_cst_45 main_while0b_v121 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_v3_2 main_while0b_v121 main_while0b_v122 (minimumf : (⟨S4x4096, .f32⟩ : BufTy).Contents (Elt F) → (⟨S4x4096, .f32⟩ : BufTy).Contents (Elt F) → (⟨S4x4096, .f32⟩ : BufTy).Contents (Elt F)) ]
theorem loopA2_sub : (loopA2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- The buffers it writes. -/
abbrev loopA2_W : List (Ref sig .tc) := [main_while0b_v118, main_while0b_v119, main_while0b_v120, main_while0b_cst_45, main_while0b_v121, main_while0b_v122]
theorem loopA2_writes : (loopA2 : List (HloOp τ sig (Elt F))).Forall fun op => op.writes ⊆ (loopA2_W.map (Proc.devRef (τ := τ) .tc)).toFinset :=
  StableHlo.forall_writes_sub_of_map rfl

/-- The position of the largest distance. -/
abbrev loopA3 : List (HloOp τ sig (Elt F)) :=
  [ StableHlo.TRef.nullary (.of main_while0b_call1_v0 : StableHlo.TRef sig ⟨S4x4096, .i32⟩) (iotaInDim S4x4096 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v122 : StableHlo.TRef sig ⟨S4x4096, .f32⟩) (.of main_while0b_call1_v0 : StableHlo.TRef sig ⟨S4x4096, .i32⟩) (.of main_while0b_call1_cst : StableHlo.TRef sig ⟨S_, .f32⟩) (.of main_while0b_call1_c : StableHlo.TRef sig ⟨S_, .i32⟩) (.of main_while0b_call1_v1_0 : StableHlo.TRef sig ⟨S4, .f32⟩) (fun x y u v j => (Host.argReduce reducer_argmax_f32_i32 x y u v reducesTo_S4x4096_S4_d1 h_S_ j).1),
    StableHlo.TRef.quaternary (.of main_while0b_v122 : StableHlo.TRef sig ⟨S4x4096, .f32⟩) (.of main_while0b_call1_v0 : StableHlo.TRef sig ⟨S4x4096, .i32⟩) (.of main_while0b_call1_cst : StableHlo.TRef sig ⟨S_, .f32⟩) (.of main_while0b_call1_c : StableHlo.TRef sig ⟨S_, .i32⟩) (.of main_while0b_v123 : StableHlo.TRef sig ⟨S4, .i32⟩) (fun x y u v j => (Host.argReduce reducer_argmax_f32_i32 x y u v reducesTo_S4x4096_S4_d1 h_S_ j).2) ]
theorem loopA3_sub : (loopA3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- The buffers it writes. -/
abbrev loopA3_W : List (Ref sig .tc) := [main_while0b_call1_v0, main_while0b_call1_cst, main_while0b_call1_c, main_while0b_call1_v1_0, main_while0b_v123]
theorem loopA3_writes : (loopA3 : List (HloOp τ sig (Elt F))).Forall fun op => op.writes ⊆ (loopA3_W.map (Proc.devRef (τ := τ) .tc)).toFinset :=
  StableHlo.forall_writes_sub_of_map rfl

/-- It is written into the row of the counter. -/
abbrev loopA4 : List (HloOp τ sig (Elt F)) :=
  [ StableHlo.TRef.unary (.of main_while0b_v123 : StableHlo.TRef sig ⟨S4, .i32⟩) (.of main_while0b_call2_v0 : StableHlo.TRef sig ⟨S1x4, .i32⟩) (broadcastInDim S1x4 ![1] bcast_S4_S1x4_1),
    StableHlo.TRef.nullary (.of main_while0b_call2_c : StableHlo.TRef sig ⟨S_, .i32⟩) (constantI S_ 32 0#32),
    StableHlo.TRef.binaryIndexed (.of main_v3_4 : StableHlo.TRef sig ⟨S1023x4, .i32⟩) (.of main_while0b_call2_v0 : StableHlo.TRef sig ⟨S1x4, .i32⟩) ![(.of main_v3_1 : StableHlo.TRef sig ⟨S_, .i32⟩), (.of main_while0b_call2_c : StableHlo.TRef sig ⟨S_, .i32⟩)] (.of main_while0b_v124 : StableHlo.TRef sig ⟨S1023x4, .i32⟩) (fun x u i => Host.dynamicUpdateSlice x u (fun k => (i k (Shape.Idx.first h_S_)).toInt) updateFits_S1023x4_S1x4) ]
theorem loopA4_sub : (loopA4 : List (HloOp τ sig (Elt F))).Forall fun op => op.bufs ⊆ StableHlo.tcRefs τ sig :=
  ⟨StableHlo.unary_bufs_sub .., StableHlo.nullary_bufs_sub .., StableHlo.binaryIndexed_bufs_sub ..⟩
/-- The buffers it writes. -/
abbrev loopA4_W : List (Ref sig .tc) := [main_while0b_call2_v0, main_while0b_call2_c, main_while0b_v124]
theorem loopA4_writes : (loopA4 : List (HloOp τ sig (Elt F))).Forall fun op => op.writes ⊆ (loopA4_W.map (Proc.devRef (τ := τ) .tc)).toFinset :=
  StableHlo.forall_writes_sub_of_map rfl

/-- The counter goes up by one and the carried buffers are written back. -/
abbrev loopA5 : List (HloOp τ sig (Elt F)) :=
  [ StableHlo.nullary main_while0b_c_46 (constantI S_ 32 1#32),
    StableHlo.binary main_v3_1 main_while0b_c_46 main_while0b_v125 (addi : (⟨S_, .i32⟩ : BufTy).Contents (Elt F) → (⟨S_, .i32⟩ : BufTy).Contents (Elt F) → (⟨S_, .i32⟩ : BufTy).Contents (Elt F)),
    StableHlo.unary main_while0b_v125 main_v3_1 id,
    StableHlo.unary main_while0b_v122 main_v3_2 id,
    StableHlo.unary main_while0b_v123 main_v3_3 id,
    StableHlo.unary main_while0b_v124 main_v3_4 id ]
theorem loopA5_sub : (loopA5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The buffers it writes. -/
abbrev loopA5_W : List (Ref sig .tc) := [main_while0b_c_46, main_while0b_v125, main_v3_1, main_v3_2, main_v3_3, main_v3_4]
theorem loopA5_writes : (loopA5 : List (HloOp τ sig (Elt F))).Forall fun op => op.writes ⊆ (loopA5_W.map (Proc.devRef (τ := τ) .tc)).toFinset :=
  StableHlo.forall_writes_sub_of_map rfl

/-- The last chosen index, with two unit axes. -/
abbrev loopB0 : List (HloOp τ sig (Elt F)) :=
  [ StableHlo.unary main_v12_3 main_while1b_v116 (broadcastInDim S4x1x1 ![0] bcast_S4_S4x1x1_0 : (⟨S4, .i32⟩ : BufTy).Contents (Elt F) → (⟨S4x1x1, .i32⟩ : BufTy).Contents (Elt F)) ]
theorem loopB0_sub : (loopB0 : List (HloOp τ sig (Elt F))).Forall fun op => op.bufs ⊆ StableHlo.tcRefs τ sig :=
  StableHlo.unary_bufs_sub ..
/-- The buffers it writes. -/
abbrev loopB0_W : List (Ref sig .tc) := [main_while1b_v116]
theorem loopB0_writes : (loopB0 : List (HloOp τ sig (Elt F))).Forall fun op => op.writes ⊆ (loopB0_W.map (Proc.devRef (τ := τ) .tc)).toFinset :=
  StableHlo.forall_writes_sub_of_map rfl

/-- The last chosen point is read off the points. -/
abbrev loopB1 : List (HloOp τ sig (Elt F)) :=
  [ StableHlo.TRef.nullary (.of main_while1b_call4_c : StableHlo.TRef sig ⟨S_, .i32⟩) (constantI S_ 32 0#32),
    StableHlo.TRef.unary (.of main_while1b_call4_c : StableHlo.TRef sig ⟨S_, .i32⟩) (.of main_while1b_call4_v0 : StableHlo.TRef sig ⟨S4x1x1, .i32⟩) (broadcastInDim S4x1x1 ![] bcast_S_S4x1x1),
    StableHlo.TRef.binary (.of main_while1b_v116 : StableHlo.TRef sig ⟨S4x1x1, .i32⟩) (.of main_while1b_call4_v0 : StableHlo.TRef sig ⟨S4x1x1, .i32⟩) (.of main_while1b_call4_v1 : StableHlo.TRef sig ⟨S4x1x1, .i1⟩) (cmpi .slt),
    StableHlo.TRef.nullary (.of main_while1b_call4_c_0 : StableHlo.TRef sig ⟨S_, .i32⟩) (constantI S_ 32 1024#32),
    StableHlo.TRef.unary (.of main_while1b_call4_c_0 : StableHlo.TRef sig ⟨S_, .i32⟩) (.of main_while1b_call4_v2 : StableHlo.TRef sig ⟨S4x1x1, .i32⟩) (broadcastInDim S4x1x1 ![] bcast_S_S4x1x1),
    StableHlo.TRef.binary (.of main_while1b_v116 : StableHlo.TRef sig ⟨S4x1x1, .i32⟩) (.of main_while1b_call4_v2 : StableHlo.TRef sig ⟨S4x1x1, .i32⟩) (.of main_while1b_call4_v3 : StableHlo.TRef sig ⟨S4x1x1, .i32⟩) addi,
    StableHlo.TRef.ternary (.of main_while1b_call4_v1 : StableHlo.TRef sig ⟨S4x1x1, .i1⟩) (.of main_while1b_call4_v3 : StableHlo.TRef sig ⟨S4x1x1, .i32⟩) (.of main_while1b_v116 : StableHlo.TRef sig ⟨S4x1x1, .i32⟩) (.of main_while1b_call4_v4 : StableHlo.TRef sig ⟨S4x1x1, .i32⟩) select,
    StableHlo.TRef.binary (.of main_v12_0 : StableHlo.TRef sig ⟨S4x1024x3, .f32⟩) (.of main_while1b_call4_v4 : StableHlo.TRef sig ⟨S4x1x1, .i32⟩) (.of main_while1b_v117 : StableHlo.TRef sig ⟨S4x1x3, .f32⟩) (fun x i => Host.gather gather_S4x1024x3_S4x1x1_S4x1x3_2_1_0_0_1_2_113 x i) ]
theorem loopB1_sub : (loopB1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- The buffers it writes. -/
abbrev loopB1_W : List (Ref sig .tc) := [main_while1b_call4_c, main_while1b_call4_v0, main_while1b_call4_v1, main_while1b_call4_c_0, main_while1b_call4_v2, main_while1b_call4_v3, main_while1b_call4_v4, main_while1b_v117]
theorem loopB1_writes : (loopB1 : List (HloOp τ sig (Elt F))).Forall fun op => op.writes ⊆ (loopB1_W.map (Proc.devRef (τ := τ) .tc)).toFinset :=
  StableHlo.forall_writes_sub_of_map rfl

/-- The squared distances to it, and the minimum with the distances so far. -/
abbrev loopB2 : List (HloOp τ sig (Elt F)) :=
  [ StableHlo.unary main_while1b_v117 main_while1b_v118 (broadcastInDim S4x1024x3 ![0, 1, 2] bcast_S4x1x3_S4x1024x3_0_1_2 : (⟨S4x1x3, .f32⟩ : BufTy).Contents (Elt F) → (⟨S4x1024x3, .f32⟩ : BufTy).Contents (Elt F)),
    StableHlo.binary main_v12_0 main_while1b_v118 main_while1b_v119 (subf : (⟨S4x1024x3, .f32⟩ : BufTy).Contents (Elt F) → (⟨S4x1024x3, .f32⟩ : BufTy).Contents (Elt F) → (⟨S4x1024x3, .f32⟩ : BufTy).Contents (Elt F)),
    StableHlo.binary main_while1b_v119 main_while1b_v119 main_while1b_v120 (mulf : (⟨S4x1024x3, .f32⟩ : BufTy).Contents (Elt F) → (⟨S4x1024x3, .f32⟩ : BufTy).Contents (Elt F) → (⟨S4x1024x3, .f32⟩ : BufTy).Contents (Elt F)),
    StableHlo.nullary main_while1b_cst_45 (constant S_ .f32 0x00000000#32),
    StableHlo.binary main_while1b_v120 main_while1b_cst_45 main_while1b_v121 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    StableHlo.binary main_v12_2 main_while1b_v121 main_while1b_v122 (minimumf : (⟨S4x1024, .f32⟩ : BufTy).Contents (Elt F) → (⟨S4x1024, .f32⟩ : BufTy).Contents (Elt F) → (⟨S4x1024, .f32⟩ : BufTy).Contents (Elt F)) ]
theorem loopB2_sub : (loopB2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- The buffers it writes. -/
abbrev loopB2_W : List (Ref sig .tc) := [main_while1b_v118, main_while1b_v119, main_while1b_v120, main_while1b_cst_45, main_while1b_v121, main_while1b_v122]
theorem loopB2_writes : (loopB2 : List (HloOp τ sig (Elt F))).Forall fun op => op.writes ⊆ (loopB2_W.map (Proc.devRef (τ := τ) .tc)).toFinset :=
  StableHlo.forall_writes_sub_of_map rfl

/-- The position of the largest distance. -/
abbrev loopB3 : List (HloOp τ sig (Elt F)) :=
  [ StableHlo.TRef.nullary (.of main_while1b_call5_v0 : StableHlo.TRef sig ⟨S4x1024, .i32⟩) (iotaInDim S4x1024 32 1),
    StableHlo.TRef.nullary (.of main_while1b_call5_cst : StableHlo.TRef sig ⟨S_, .f32⟩) (constant S_ .f32 0xFF800000#32),
    StableHlo.TRef.nullary (.of main_while1b_call5_c : StableHlo.TRef sig ⟨S_, .i32⟩) (constantI S_ 32 0#32),
    StableHlo.TRef.quaternary (.of main_while1b_v122 : StableHlo.TRef sig ⟨S4x1024, .f32⟩) (.of main_while1b_call5_v0 : StableHlo.TRef sig ⟨S4x1024, .i32⟩) (.of main_while1b_call5_cst : StableHlo.TRef sig ⟨S_, .f32⟩) (.of main_while1b_call5_c : StableHlo.TRef sig ⟨S_, .i32⟩) (.of main_while1b_call5_v1_0 : StableHlo.TRef sig ⟨S4, .f32⟩) (fun x y u v j => (Host.argReduce reducer_argmax_f32_i32 x y u v reducesTo_S4x1024_S4_d1 h_S_ j).1),
    StableHlo.TRef.quaternary (.of main_while1b_v122 : StableHlo.TRef sig ⟨S4x1024, .f32⟩) (.of main_while1b_call5_v0 : StableHlo.TRef sig ⟨S4x1024, .i32⟩) (.of main_while1b_call5_cst : StableHlo.TRef sig ⟨S_, .f32⟩) (.of main_while1b_call5_c : StableHlo.TRef sig ⟨S_, .i32⟩) (.of main_while1b_v123 : StableHlo.TRef sig ⟨S4, .i32⟩) (fun x y u v j => (Host.argReduce reducer_argmax_f32_i32 x y u v reducesTo_S4x1024_S4_d1 h_S_ j).2) ]
theorem loopB3_sub : (loopB3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- The buffers it writes. -/
abbrev loopB3_W : List (Ref sig .tc) := [main_while1b_call5_v0, main_while1b_call5_cst, main_while1b_call5_c, main_while1b_call5_v1_0, main_while1b_v123]
theorem loopB3_writes : (loopB3 : List (HloOp τ sig (Elt F))).Forall fun op => op.writes ⊆ (loopB3_W.map (Proc.devRef (τ := τ) .tc)).toFinset :=
  StableHlo.forall_writes_sub_of_map rfl

/-- It is written into the row of the counter. -/
abbrev loopB4 : List (HloOp τ sig (Elt F)) :=
  [ StableHlo.TRef.unary (.of main_while1b_v123 : StableHlo.TRef sig ⟨S4, .i32⟩) (.of main_while1b_call6_v0 : StableHlo.TRef sig ⟨S1x4, .i32⟩) (broadcastInDim S1x4 ![1] bcast_S4_S1x4_1),
    StableHlo.TRef.nullary (.of main_while1b_call6_c : StableHlo.TRef sig ⟨S_, .i32⟩) (constantI S_ 32 0#32),
    StableHlo.TRef.binaryIndexed (.of main_v12_4 : StableHlo.TRef sig ⟨S255x4, .i32⟩) (.of main_while1b_call6_v0 : StableHlo.TRef sig ⟨S1x4, .i32⟩) ![(.of main_v12_1 : StableHlo.TRef sig ⟨S_, .i32⟩), (.of main_while1b_call6_c : StableHlo.TRef sig ⟨S_, .i32⟩)] (.of main_while1b_v124 : StableHlo.TRef sig ⟨S255x4, .i32⟩) (fun x u i => Host.dynamicUpdateSlice x u (fun k => (i k (Shape.Idx.first h_S_)).toInt) updateFits_S255x4_S1x4) ]
theorem loopB4_sub : (loopB4 : List (HloOp τ sig (Elt F))).Forall fun op => op.bufs ⊆ StableHlo.tcRefs τ sig :=
  ⟨StableHlo.unary_bufs_sub .., StableHlo.nullary_bufs_sub .., StableHlo.binaryIndexed_bufs_sub ..⟩
/-- The buffers it writes. -/
abbrev loopB4_W : List (Ref sig .tc) := [main_while1b_call6_v0, main_while1b_call6_c, main_while1b_v124]
theorem loopB4_writes : (loopB4 : List (HloOp τ sig (Elt F))).Forall fun op => op.writes ⊆ (loopB4_W.map (Proc.devRef (τ := τ) .tc)).toFinset :=
  StableHlo.forall_writes_sub_of_map rfl

/-- The counter goes up by one and the carried buffers are written back. -/
abbrev loopB5 : List (HloOp τ sig (Elt F)) :=
  [ StableHlo.nullary main_while1b_c_46 (constantI S_ 32 1#32),
    StableHlo.binary main_v12_1 main_while1b_c_46 main_while1b_v125 (addi : (⟨S_, .i32⟩ : BufTy).Contents (Elt F) → (⟨S_, .i32⟩ : BufTy).Contents (Elt F) → (⟨S_, .i32⟩ : BufTy).Contents (Elt F)),
    StableHlo.unary main_while1b_v125 main_v12_1 id,
    StableHlo.unary main_while1b_v122 main_v12_2 id,
    StableHlo.unary main_while1b_v123 main_v12_3 id,
    StableHlo.unary main_while1b_v124 main_v12_4 id ]
theorem loopB5_sub : (loopB5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The buffers it writes. -/
abbrev loopB5_W : List (Ref sig .tc) := [main_while1b_c_46, main_while1b_v125, main_v12_1, main_v12_2, main_v12_3, main_v12_4]
theorem loopB5_writes : (loopB5 : List (HloOp τ sig (Elt F))).Forall fun op => op.writes ⊆ (loopB5_W.map (Proc.devRef (τ := τ) .tc)).toFinset :=
  StableHlo.forall_writes_sub_of_map rfl

/-- The first printed part of `main`, as its stretches and its two loops. -/
theorem main_part0_chain (c : Dev nD) : main_part0 (F := F) c = (Pipeline.chainK
  [ StableHlo.seq startA,
    HostLoop.enter 0,
    StableHlo.seq pickA,
    StableHlo.seq takeA,
    StableHlo.seq startB,
    HostLoop.enter 1,
    StableHlo.seq pickB,
    StableHlo.seq takeB ]
  (StableHlo.seq near0) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- The second printed part is one stretch. -/
theorem main_part1_chain (c : Dev nD) : main_part1 (F := F) c = (Pipeline.chainK
  [  ]
  (StableHlo.seq near1) : Prog (TpuEff nD τ sig (Elt F) (HostLoop.Sig (Pipeline.Sig Λ₀ (Fin 0) fun p => (pcfgs (F := F) p).Adm) 2) .tc) PUnit) := by
  chain_rfl

/-- So is the third. -/
theorem main_part2_chain (c : Dev nD) : main_part2 (F := F) c = (Pipeline.chain
  [ StableHlo.seq near2 ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- `main` whole: the stretches and the two loops in order. -/
theorem main_chain_windows (c : Dev nD) : main (F := F) c = (Pipeline.chain
  [ StableHlo.seq startA,
    HostLoop.enter 0,
    StableHlo.seq pickA,
    StableHlo.seq takeA,
    StableHlo.seq startB,
    HostLoop.enter 1,
    StableHlo.seq pickB,
    StableHlo.seq takeB,
    StableHlo.seq near0,
    StableHlo.seq near1,
    StableHlo.seq near2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- The body of the first loop, as its stretches. -/
theorem while0_body_chain : main_while0_body (F := F) = (Pipeline.chain
  [ StableHlo.seq loopA0,
    StableHlo.seq loopA1,
    StableHlo.seq loopA2,
    StableHlo.seq loopA3,
    StableHlo.seq loopA4,
    StableHlo.seq loopA5 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, Pipeline.chain_cons, StableHlo.chain_seq_cons]
  chain_rfl

/-- The body of the second loop, as its stretches. -/
theorem while1_body_chain : main_while1_body (F := F) = (Pipeline.chain
  [ StableHlo.seq loopB0,
    StableHlo.seq loopB1,
    StableHlo.seq loopB2,
    StableHlo.seq loopB3,
    StableHlo.seq loopB4,
    StableHlo.seq loopB5 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, Pipeline.chain_cons, StableHlo.chain_seq_cons]
  chain_rfl

end Cert.ReferenceIdeal

end
-- ==== Proof.RefRun.lean ====
/-
  The run of the reference program: stretches of host operations around two counted loops. Every buffer ends at
  `endContents`, a fold over the stretches in which each loop's body is repeated as often as the loop turns, and
  every semaphore counter ends at zero.
-/
module

public import proofs.«01_k».proof.Proof.RefOps
public import Idealize.ShloMosaic.Lib.Scf.ExitTest
public import Idealize.ShloMosaic.Lib.Scf.Counter

@[expose] public section

noncomputable section

namespace Cert.ReferenceIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket ucRefs sub_ucRefs)
open Cert.ReferenceIdeal.Gen

variable {F : FTy → Type} [FloatOps F]

local notation "𝕄" => MT nD τ sig Unit (Elt F) ℕ (Option PUnit) ℕ

/-! ## What the buffers hold -/

/-- The test at the head of the first loop: is the counter below 1023? -/
abbrev testA : List (HloOp τ sig (Elt F)) :=
  [ nullary main_while0c_c_45 (constantI S_ 32 1023#32),
    binary main_v3_1 main_while0c_c_45 main_while0c_v116 (cmpi .slt) ]
/-- The test at the head of the second loop: is the counter below 255? -/
abbrev testB : List (HloOp τ sig (Elt F)) :=
  [ nullary main_while1c_c_45 (constantI S_ 32 255#32),
    binary main_v12_1 main_while1c_c_45 main_while1c_v116 (cmpi .slt) ]

/-- One turn of the first loop. -/
abbrev turnA : List (List (HloOp τ sig (Elt F))) := [loopA0, loopA1, loopA2, loopA3, loopA4, loopA5]
/-- One turn of the second loop. -/
abbrev turnB : List (List (HloOp τ sig (Elt F))) := [loopB0, loopB1, loopB2, loopB3, loopB4, loopB5]
/-- Between the loops. -/
abbrev between : List (List (HloOp τ sig (Elt F))) := [pickA, takeA, startB]
/-- After the second loop. -/
abbrev rest : List (List (HloOp τ sig (Elt F))) := [pickB, takeB, near0, near1, near2]

theorem start_plain : Plain ([startA] : List (List (HloOp τ sig (Elt F)))) := Plain.cons startA_sub Plain.nil
theorem turnA_plain : Plain (turnA : List (List (HloOp τ sig (Elt F)))) :=
  Plain.cons loopA0_sub (Plain.cons loopA1_sub (Plain.cons loopA2_sub (Plain.cons loopA3_sub (Plain.cons loopA4_sub (Plain.cons loopA5_sub Plain.nil)))))
theorem turnB_plain : Plain (turnB : List (List (HloOp τ sig (Elt F)))) :=
  Plain.cons loopB0_sub (Plain.cons loopB1_sub (Plain.cons loopB2_sub (Plain.cons loopB3_sub (Plain.cons loopB4_sub (Plain.cons loopB5_sub Plain.nil)))))
theorem between_plain : Plain (between : List (List (HloOp τ sig (Elt F)))) := Plain.cons pickA_sub (Plain.cons takeA_sub (Plain.cons startB_sub Plain.nil))
theorem rest_plain : Plain (rest : List (List (HloOp τ sig (Elt F)))) :=
  Plain.cons pickB_sub (Plain.cons takeB_sub (Plain.cons near0_sub (Plain.cons near1_sub (Plain.cons near2_sub Plain.nil))))

section Contents

variable (m : (ℓ : Loc nD τ sig) → Buf (Elt F) ℓ)

/-- Before the first loop. -/
def inA (c : Dev nD) : Valuation τ sig (Elt F) := after startA (launchContents m c)
/-- After `k` turns of the first loop. -/
def atA (k : ℕ) (c : Dev nD) : Valuation τ sig (Elt F) := atTrip testA turnA (inA m) k c
/-- After the first loop. -/
def outA (c : Dev nD) : Valuation τ sig (Elt F) := after testA (atA m 1023 c)
/-- Before the second loop. -/
def inB (c : Dev nD) : Valuation τ sig (Elt F) := after startB (after takeA (after pickA (outA m c)))
/-- After `k` turns of the second loop. -/
def atB (k : ℕ) (c : Dev nD) : Valuation τ sig (Elt F) := atTrip testB turnB (inB m) k c
/-- After the second loop. -/
def outB (c : Dev nD) : Valuation τ sig (Elt F) := after testB (atB m 255 c)
/-- With both levels of points read off the clouds. -/
def points (c : Dev nD) : Valuation τ sig (Elt F) := after takeB (after pickB (outB m c))
/-- At the end of the run. -/
def endContents (c : Dev nD) : Valuation τ sig (Elt F) := after near2 (after near1 (after near0 (points m c)))

theorem atA_succ (k : ℕ) (c : Dev nD) :
    atA m (k + 1) c = after loopA5 (after loopA4 (after loopA3 (after loopA2 (after loopA1 (after loopA0 (after testA (atA m k c))))))) := rfl
theorem atB_succ (k : ℕ) (c : Dev nD) :
    atB m (k + 1) c = after loopB5 (after loopB4 (after loopB3 (after loopB2 (after loopB1 (after loopB0 (after testB (atB m k c))))))) := rfl

end Contents

/-! ## The counters -/

abbrev testA_W : List (Ref sig .tc) := [main_while0c_c_45, main_while0c_v116]
theorem testA_writes : (testA : List (HloOp τ sig (Elt F))).Forall fun op => op.writes ⊆ (testA_W.map (Proc.devRef (τ := τ) .tc)).toFinset :=
  forall_writes_sub_of_map rfl
abbrev testB_W : List (Ref sig .tc) := [main_while1c_c_45, main_while1c_v116]
theorem testB_writes : (testB : List (HloOp τ sig (Elt F))).Forall fun op => op.writes ⊆ (testB_W.map (Proc.devRef (τ := τ) .tc)).toFinset :=
  forall_writes_sub_of_map rfl

/-- A buffer that only the last stretch of a turn of the first loop may write is, before that stretch, as at the turn's start. -/
theorem beforeA (V : Valuation τ sig (Elt F)) (r : Ref sig .tc)
    (h : r ∉ testA_W ++ loopA0_W ++ loopA1_W ++ loopA2_W ++ loopA3_W ++ loopA4_W) :
    after loopA4 (after loopA3 (after loopA2 (after loopA1 (after loopA0 (after testA V))))) (Proc.devRef .tc r) = V (Proc.devRef .tc r) := by
  simp only [List.mem_append, not_or] at h
  rw [after_of_writes_sub _ _ loopA4_writes h.2, after_of_writes_sub _ _ loopA3_writes h.1.2, after_of_writes_sub _ _ loopA2_writes h.1.1.2,
    after_of_writes_sub _ _ loopA1_writes h.1.1.1.2, after_of_writes_sub _ _ loopA0_writes h.1.1.1.1.2, after_of_writes_sub _ _ testA_writes h.1.1.1.1.1]

/-- The same for the second loop. -/
theorem beforeB (V : Valuation τ sig (Elt F)) (r : Ref sig .tc)
    (h : r ∉ testB_W ++ loopB0_W ++ loopB1_W ++ loopB2_W ++ loopB3_W ++ loopB4_W) :
    after loopB4 (after loopB3 (after loopB2 (after loopB1 (after loopB0 (after testB V))))) (Proc.devRef .tc r) = V (Proc.devRef .tc r) := by
  simp only [List.mem_append, not_or] at h
  rw [after_of_writes_sub _ _ loopB4_writes h.2, after_of_writes_sub _ _ loopB3_writes h.1.2, after_of_writes_sub _ _ loopB2_writes h.1.1.2,
    after_of_writes_sub _ _ loopB1_writes h.1.1.1.2, after_of_writes_sub _ _ loopB0_writes h.1.1.1.1.2, after_of_writes_sub _ _ testB_writes h.1.1.1.1.1]

theorem loopA5_counter (V : Valuation τ sig (Elt F)) :
    after loopA5 V (Proc.devRef .tc main_v3_1) = addi (V (Proc.devRef .tc main_v3_1)) (constantI S_ 32 1#32) := by
  after_results; rfl
theorem loopB5_counter (V : Valuation τ sig (Elt F)) :
    after loopB5 V (Proc.devRef .tc main_v12_1) = addi (V (Proc.devRef .tc main_v12_1)) (constantI S_ 32 1#32) := by
  after_results; rfl
theorem startA_counter (V : Valuation τ sig (Elt F)) : after startA V (Proc.devRef .tc main_v3_1) = constantI S_ 32 0#32 := by
  after_results; rfl
theorem startB_counter (V : Valuation τ sig (Elt F)) : after startB V (Proc.devRef .tc main_v12_1) = constantI S_ 32 0#32 := by
  after_results; rfl

/-- After `k` turns the first loop's counter is `k`. -/
theorem atA_counter (m : (ℓ : Loc nD τ sig) → Buf (Elt F) ℓ) (c : Dev nD) :
    ∀ k, atA m k c (Proc.devRef .tc main_v3_1) = fun _ => Scf.iv 0#32 1#32 k
  | 0 => by
    rw [show atA m 0 c = after startA (launchContents m c) from rfl, startA_counter, Scf.iv_zero]; rfl
  | k + 1 => by
    rw [atA_succ, loopA5_counter, beforeA _ _ (by decide), atA_counter m c k, Scf.iv_succ]; rfl

/-- After `k` turns the second loop's counter is `k`. -/
theorem atB_counter (m : (ℓ : Loc nD τ sig) → Buf (Elt F) ℓ) (c : Dev nD) :
    ∀ k, atB m k c (Proc.devRef .tc main_v12_1) = fun _ => Scf.iv 0#32 1#32 k
  | 0 => by
    rw [show atB m 0 c = after startB (after takeA (after pickA (outA m c))) from rfl, startB_counter, Scf.iv_zero]; rfl
  | k + 1 => by
    rw [atB_succ, loopB5_counter, beforeB _ _ (by decide), atB_counter m c k, Scf.iv_succ]; rfl

/-! ## The run -/

/-- What is carried beside the buffers: the core's `owes`. -/
abbrev Rw (c : Dev nD) : sProp 𝕄 := iprop(∃ W, owes (c : Thread nD τ) (0 : CellTallies nD τ sig Unit) W)

set_option backward.isDefEq.respectTransparency.types false in
/-- The first loop's test holds exactly for the first 1023 turns. -/
theorem testA_spec (m : (ℓ : Loc nD τ sig) → Buf (Elt F) ℓ) :
    LoopCond (pcfgs (F := F)) defs₀ Variants.none loops Rw (main_while0_cond (F := F)) testA turnA (inA m) 1023 := by
  intro k hk c bd
  have hctr := atA_counter m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atA m k c) main_v3_1 HostLoop.idx0)
        (HloOp.result _ (atA m k c) main_while0c_c_45 HostLoop.idx0) = 1#1) (k < 1023)
    rw [nullary_result_ne _ _ _ _ (by decide), nullary_result, hctr]
    exact Scf.cmpi_slt_iv_ub_iff (lb := 0#32) (ub := 1023#32) (st := 1#32) (by decide) (show k ≤ Scf.trips 0#32 1023#32 1#32 from hk)
  isplitl [Hb]; · iexact Hb
  isplitl [Hh]; · rw [after_cons, after_cons, after_nil]; iexact Hh
  iexact HR

set_option backward.isDefEq.respectTransparency.types false in
/-- The second loop's test holds exactly for the first 255 turns. -/
theorem testB_spec (m : (ℓ : Loc nD τ sig) → Buf (Elt F) ℓ) :
    LoopCond (pcfgs (F := F)) defs₀ Variants.none loops Rw (main_while1_cond (F := F)) testB turnB (inB m) 255 := by
  intro k hk c bd
  have hctr := atB_counter m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atB m k c) main_v12_1 HostLoop.idx0)
        (HloOp.result _ (atB m k c) main_while1c_c_45 HostLoop.idx0) = 1#1) (k < 255)
    rw [nullary_result_ne _ _ _ _ (by decide), nullary_result, hctr]
    exact Scf.cmpi_slt_iv_ub_iff (lb := 0#32) (ub := 255#32) (st := 1#32) (by decide) (show k ≤ Scf.trips 0#32 255#32 1#32 from hk)
  isplitl [Hb]; · iexact Hb
  isplitl [Hh]; · rw [after_cons, after_cons, after_nil]; iexact Hh
  iexact HR

/-- The program has no pipeline: nothing is admitted, -/
abbrev adm : (p : Fin 0) → (pcfgs (F := F) p).Adm := fun p => p.elim0
/-- no ticket is issued, -/
abbrev tickets : Fin 0 → Ticket (Ix := Unit) (Name := ℕ) (U := Option PUnit) (Lvl := ℕ) (nD := nD) (τ := τ) (pcfgs (F := F)) adm := fun j => j.elim0
/-- no semaphore has a level. -/
abbrev noL : GSem nD τ sig → Finset Unit := fun _ => ∅
abbrev nolv : GSem nD τ sig → Unit → ℕ := fun _ _ => 0

/-- `main` as segments: the start, the first loop, what lies between, the second loop, the rest. -/
def segs (m : (ℓ : Loc nD τ sig) → Buf (Elt F) ℓ) : List (CSeg (pcfgs (F := F)) adm defs₀ Variants.none noL nolv loops tickets) :=
  segsOf _ _ _ _ _ _ _ _ Rw [startA] start_plain (launchContents m)
    ++ loopSeg _ _ _ _ _ _ _ _ 0 main_while0_cond main_while0_body rfl testA turnA turnA_plain while0_body_chain 1023 (inA m) Rw (testA_spec m)
      :: (segsOf _ _ _ _ _ _ _ _ Rw between between_plain (outA m)
        ++ loopSeg _ _ _ _ _ _ _ _ 1 main_while1_cond main_while1_body rfl testB turnB turnB_plain while1_body_chain 255 (inB m) Rw (testB_spec m)
          :: segsOf _ _ _ _ _ _ _ _ Rw rest rest_plain (outB m))

theorem segs_prog (m : (ℓ : Loc nD τ sig) → Buf (Elt F) ℓ) (c : Dev nD) : main (F := F) c = Pipeline.chain ((segs m).map CSeg.prog) := by
  unfold segs
  rw [List.map_append, List.map_cons, List.map_append, List.map_cons, segsOf_prog, segsOf_prog, segsOf_prog, main_chain_windows]
  rfl

theorem segs_chains (m : (ℓ : Loc nD τ sig) → Buf (Elt F) ℓ) :
    CSeg.Chains (fun c => iprop(held (c : Thread nD τ) (ucRefs τ sig) (launchContents m c) ∗ Rw c)) (segs m)
      (fun c => iprop(iprop(held (c : Thread nD τ) (ucRefs τ sig) (endContents m c)) ∗ ∃ W, owes (c : Thread nD τ) (0 : CellTallies nD τ sig Unit) W)) := by
  unfold segs
  exact CSeg.Chains.append (segsOf_chains _ _ _ _ _ _ _ _ Rw [startA] start_plain _)
    ⟨fun _ => .rfl, CSeg.Chains.append (segsOf_chains _ _ _ _ _ _ _ _ Rw between between_plain _)
      ⟨fun _ => .rfl, segsOf_chains _ _ _ _ _ _ _ _ Rw rest rest_plain _⟩⟩

/-- The TensorCore has no semaphore of its own outside a kernel. -/
theorem no_unscoped : ∀ sm : SemLoc sig, sm.isScoped .tc = true := by decide

/-- Every run of the reference ends with each buffer at `endContents` and every counter at zero. -/
theorem run [∀ e, Nonempty (Elt F e)] (m : (ℓ : Loc nD τ sig) → Buf (Elt F) ℓ) (ρ : Dev nD → PrngReg) :
    θ_run defs (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = endContents m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none noL nolv loops tickets m ρ main (segs m)
    (fun c Q => by
      rw [segs_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (endContents m c)))
    (hch := segs_chains m)
    (hinit := by
      refine Pipeline.initEach noL nolv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = endContents m c b)
    (hfin := fun c s' => by
      unfold held
      iintro ⟨Hh, HSI⟩
      ihave Hr := (pointsTo_read_all (ucRefs τ sig) (fun b => ((c : Dev nD), b)) (fun b => endContents m c b) s') $$ [Hh HSI]
      · isplitl [Hh] <;> iassumption
      icases Hr with ⟨%h, HSI⟩
      imodintro
      isplitr; · ipureintro; exact h
      iexact HSI)
    (hQ := fun s h hz => ⟨fun c b hb => h c _ (devRef_mem_ucRefs b hb), funext fun g => hz g (.inr (no_unscoped g.2))⟩)

/-! ## The argument -/

/-- No stretch writes the argument. -/
theorem end_arg (m : (ℓ : Loc nD τ sig) → Buf (Elt F) ℓ) (c : Dev nD) : endContents m c (Proc.devRef .tc main_arg0) = m ((c.tc : Thread nD τ).loc main_arg0) := by
  have hA : ∀ k, atA m k c (Proc.devRef .tc main_arg0) = m ((c.tc : Thread nD τ).loc main_arg0) := by
    intro k
    induction k with
    | zero => exact after_of_writes_sub _ _ startA_writes (by decide)
    | succ k ih => rw [atA_succ, after_of_writes_sub _ _ loopA5_writes (by decide), beforeA _ _ (by decide), ih]
  have hB : ∀ k, atB m k c (Proc.devRef .tc main_arg0) = m ((c.tc : Thread nD τ).loc main_arg0) := by
    intro k
    induction k with
    | zero =>
      rw [show atB m 0 c = after startB (after takeA (after pickA (after testA (atA m 1023 c)))) from rfl,
        after_of_writes_sub _ _ startB_writes (by decide), after_of_writes_sub _ _ takeA_writes (by decide),
        after_of_writes_sub _ _ pickA_writes (by decide), after_of_writes_sub _ _ testA_writes (by decide), hA]
    | succ k ih => rw [atB_succ, after_of_writes_sub _ _ loopB5_writes (by decide), beforeB _ _ (by decide), ih]
  rw [show endContents m c = after near2 (after near1 (after near0 (after takeB (after pickB (after testB (atB m 255 c)))))) from rfl,
    after_of_writes_sub _ _ near2_writes (by decide), after_of_writes_sub _ _ near1_writes (by decide),
    after_of_writes_sub _ _ near0_writes (by decide), after_of_writes_sub _ _ takeB_writes (by decide),
    after_of_writes_sub _ _ pickB_writes (by decide), after_of_writes_sub _ _ testB_writes (by decide), hB]

/-- The frame of the reference: it runs, the argument is unchanged, every counter is back at zero. -/
theorem frame [∀ e, Nonempty (Elt F e)] (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun _ h => ⟨fun c => (h.1 c main_arg0 rfl).trans (end_arg m c), h.2⟩) (run m ρ)

end Cert.ReferenceIdeal

end
-- ==== Proof.RefGather.lean ====
/-
  READING ROWS OF A CLOUD BY INDEX. For every item of a batch, the gather that takes the rows whose numbers are given.
-/
module

public import proofs.«01_k».proof.Proof.Fps
public import Idealize.ShloMosaic.Lib.StableHlo.Predicate

@[expose] public section

noncomputable section

namespace Cert.Rows

open Idealize.ShloMosaic Cert.First Cert.Knn

/-- The dimension numbers of that gather: axis 0 counts the batch on both sides, axis 1 of the
    cloud is indexed, and axis 2 is copied whole. -/
def rowDims (N J : Nat)
    (wf : GatherDims.WF ⟨3, ![4, N, 3]⟩ ⟨3, ![4, J, 1]⟩ ⟨3, ![4, J, 3]⟩ [2] [1] [0] [1] [0] 2 ![1, 1, 3]) :
    GatherDims ⟨3, ![4, N, 3]⟩ ⟨3, ![4, J, 1]⟩ ⟨3, ![4, J, 3]⟩ where
  offsetDims := [2]
  collapsedSliceDims := [1]
  operandBatchingDims := [0]
  startIndicesBatchingDims := [0]
  startIndexMap := [1]
  indexVectorDim := 2
  sliceSizes := ![1, 1, 3]
  wf := wf

/-- A word made of a small number is that number as a signed integer. -/
theorem toInt_nat (m : ℕ) (hm : m < 2 ^ 31) : (BitVec.ofNat 32 m).toInt = (m : ℤ) := by
  have h1 : (BitVec.ofNat 32 m).toNat = m := by simp only [BitVec.toNat_ofNat]; omega
  rw [BitVec.toInt_eq_toNat_cond, h1]; split <;> omega

variable {N J : Nat}
  (wf : GatherDims.WF ⟨3, ![4, N, 3]⟩ ⟨3, ![4, J, 1]⟩ ⟨3, ![4, J, 3]⟩ [2] [1] [0] [1] [0] 2 ![1, 1, 3])

/-- The number of the row read is the given one when it is a row of the cloud. -/
theorem rowDims_start (idx : IVec ⟨3, ![4, J, 1]⟩ 32) (b : Fin 4) (j : Fin J) (c : Fin 3) (a : Fin N)
    (hN : N < 2 ^ 31) (h : idx (ix3 b j 0) = BitVec.ofNat 32 a.val) :
    (rowDims N J wf).start (ix3 b j c) idx 1 = a.val := by
  have e : (rowDims N J wf).start (ix3 b j c) idx 1
      = min (idx (ix3 b j 0)).toInt.toNat (N - 1) := by
    have hs : (rowDims N J wf).siIdx (ix3 b j c) ⟨0, Nat.one_pos⟩ = ix3 b j 0 := by
      funext k; fin_cases k <;> rfl
    rw [← hs]; rfl
  have ha := a.isLt
  rw [e, h, toInt_nat _ (by omega)]
  simp only [Int.toNat_natCast]; omega

/-- The gather's result at item `b`, row `j` is the cloud's row of the given number. -/
theorem gather_row {α : Type} (x : (⟨3, ![4, N, 3]⟩ : Shape).Idx → α) (idx : IVec ⟨3, ![4, J, 1]⟩ 32)
    (b : Fin 4) (j : Fin J) (c : Fin 3) (a : Fin N)
    (hN : N < 2 ^ 31) (h : idx (ix3 b j 0) = BitVec.ofNat 32 a.val) :
    Host.gather (rowDims N J wf) x idx (ix3 b j c) = x (ix3 b a c) := by
  have e : (rowDims N J wf).operandIdx (ix3 b j c) idx = ix3 b a c := by
    funext k; apply Fin.ext
    fin_cases k
    · show 0 + b.val + 0 = b.val
      omega
    · show (rowDims N J wf).start (ix3 b j c) idx 1 + 0 + 0 = a.val
      rw [rowDims_start wf idx b j c a hN h]; rfl
    · show 0 + 0 + c.val = c.val
      omega
  show x _ = _
  rw [e]

end Cert.Rows

end
-- ==== Proof.RefFps.lean ====
/-
  THE REFERENCE'S SAMPLING. One turn of the reference's loop and the lines around it, for any cloud size `N` and any number `M`
  of points taken by the loop, as functions of the arrays they read; and that they carry the state of `Cert.Fps`.
-/
module

public import proofs.«01_k».proof.Proof.RefGather
public import proofs.«01_k».proof.Proof.Pyramid
public import Idealize.ShloMosaic.Lib.WordCmp
public import Idealize.ShloMosaic.Lib.Pipeline.Value

@[expose] public section

noncomputable section

namespace Cert.Rows

open Idealize.ShloMosaic Cert.First Cert.Knn Cert.Fps Cert.Pyramid

variable {N J M : ℕ}

/-- The shape of a single number. -/
abbrev num : Shape := ⟨0, ![]⟩

/-! ## The lines read at an index -/

/-- A negative index counts from the end; an index that is not negative stays. -/
def wrap {t : Shape} (h : num.BroadcastsInDim t ![]) (n : BitVec 32) (i : IVec t 32) : IVec t 32 :=
  select (cmpi .slt i (broadcastInDim t ![] h (constantI num 32 0#32))) (addi i (broadcastInDim t ![] h (constantI num 32 n))) i

theorem wrap_apply {t : Shape} (h : num.BroadcastsInDim t ![]) (n : BitVec 32) (i : IVec t 32) (j : t.Idx) (m : ℕ)
    (hm : m < 2 ^ 31) (hi : i j = BitVec.ofNat 32 m) : wrap h n i j = BitVec.ofNat 32 m := by
  show Scalar.select (IntOp.cmpi .slt (i j) 0#32) _ (i j) = _
  have e : IntOp.cmpi .slt (i j) 0#32 = 0#1 := by
    have h1 : ¬ (BitVec.slt (i j) 0#32 = true) := by
      rw [hi, BitVec.slt_iff_toInt_lt, toInt_nat m hm]
      simp
    simp [IntOp.cmpi, h1]
  rw [e, hi]; rfl

/-- The squared distances of a cloud's points to a second array's points, as the reference sums them. -/
theorem gap_apply (x y : Vec Ideal ⟨3, ![4, N, 3]⟩ .f32) (h : (⟨3, ![4, N, 3]⟩ : Shape).ReducesTo [2] ⟨2, ![4, N]⟩)
    (h0 : 0 < num.numel) (b : Fin 4) (k : Fin N) :
    Host.reduceAdd (F := Ideal) (mulf (subf x y) (subf x y)) (constant num .f32 0x00000000#32) h h0 (ix2 b k)
      = gap (fun c => x (ix3 b k c)) (fun c => y (ix3 b k c)) := by
  pointwise
  rfl

/-- One point spread over a cloud. -/
theorem spread_point (x : Vec Ideal ⟨3, ![4, 1, 3]⟩ .f32)
    (h : (⟨3, ![4, 1, 3]⟩ : Shape).BroadcastsInDim ⟨3, ![4, N, 3]⟩ ![0, 1, 2]) (b : Fin 4) (k : Fin N) (c : Fin 3) :
    broadcastInDim ⟨3, ![4, N, 3]⟩ ![0, 1, 2] h x (ix3 b k c) = x (ix3 b 0 c) :=
  broadcastInDim_apply _ h x _ _ fun a => by fin_cases a <;> rfl

/-- A vector as a column of one-element rows. -/
theorem column_apply (i : IVec ⟨1, ![4]⟩ 32) (h : (⟨1, ![4]⟩ : Shape).BroadcastsInDim ⟨3, ![4, 1, 1]⟩ ![0]) (b : Fin 4) :
    broadcastInDim ⟨3, ![4, 1, 1]⟩ ![0] h i (ix3 b 0 0) = i (ix1 b) :=
  broadcastInDim_apply _ h i _ _ fun a => by fin_cases a; rfl

/-- The position the arg-max leaves for row `b` is the first at which the row is greatest. -/
theorem argMax_apply [NeZero N] (hN : N < 2 ^ 31) (f : EReal × BitVec 32 → EReal × BitVec 32 → EReal × BitVec 32)
    (hf : f = argMaxStep) (x : Vec Ideal ⟨2, ![4, N]⟩ .f32)
    (h : (⟨2, ![4, N]⟩ : Shape).ReducesTo [1] ⟨1, ![4]⟩) (h0 : 0 < num.numel) (b : Fin 4) :
    (Host.argReduce (F := Ideal) (φ := .f32) f x (iotaInDim ⟨2, ![4, N]⟩ 32 1) (constant num .f32 0xFF800000#32)
        (constantI num 32 0#32) h h0 (ix1 b)).2
      = BitVec.ofNat 32 (first fun k => -x (ix2 b k)).val := by
  subst hf
  rw [Ideal.argReduce_eq_reduce2, Host.reduce2_eq_foldl_fiber]
  have e : ((constant (F := Ideal) num .f32 0xFF800000#32 (Shape.Idx.first h0), constantI num 32 0#32 (Shape.Idx.first h0)) : EReal × BitVec 32)
      = (⊥, 0#32) := Prod.ext ofBits_neg_inf rfl
  rw [e]
  refine foldl_argMax_eq hN (fun k => x (ix2 b k)) _ fun p => ?_
  simp only [Host.argReduceFiber, List.mem_map, List.mem_filter, List.mem_finRange, true_and, decide_eq_true_eq]
  constructor
  · rintro ⟨n, hn, rfl⟩
    obtain ⟨k, hk⟩ := (h.fiber_r2_a1 _ _).mp hn
    refine ⟨k, ?_⟩
    rw [← hk]; rfl
  · rintro ⟨k, rfl⟩
    refine ⟨(⟨2, ![4, N]⟩ : Shape).rowMajor (ix2 b k), ?_, ?_⟩
    · rw [Equiv.symm_apply_apply]
      exact (h.fiber_r2_a1 _ _).mpr ⟨k, rfl⟩
    · rw [Equiv.symm_apply_apply]; rfl

/-- One row written into the table: row `k` is the new one, the others stay. -/
theorem table_apply (T : IVec ⟨2, ![M, 4]⟩ 32) (u : IVec ⟨2, ![1, 4]⟩ 32) (start : Fin 2 → Int)
    (h : (⟨2, ![M, 4]⟩ : Shape).Slices (fun _ => 0) ⟨2, ![1, 4]⟩) (k : ℕ) (hk : k < M) (h0 : start 0 = k) (h1 : start 1 = 0)
    (j : Fin M) (b : Fin 4) :
    Host.dynamicUpdateSlice T u start h (ix2 j b) = if j.val = k then u (ix2 0 b) else T (ix2 j b) := by
  have hs : (⟨2, ![M, 4]⟩ : Shape).Slices ![k, 0] ⟨2, ![1, 4]⟩ := ⟨rfl, fun a => by
    fin_cases a
    · show k + 1 ≤ M; omega
    · show 0 + 4 ≤ 4; omega⟩
  rw [WordCmp.dynamicUpdateSlice_eq_update T u start h ![k, 0] hs (fun a => by fin_cases a; exacts [h0, h1])]
  unfold updateSlice
  by_cases e : j.val = k
  · rw [if_pos e, dif_pos (fun a => by
      fin_cases a
      · show k ≤ j.val ∧ j.val < k + 1; omega
      · show 0 ≤ b.val ∧ b.val < 0 + 4; omega)]
    refine congrArg u (funext fun a => Fin.ext ?_)
    fin_cases a
    · show j.val - k = 0; omega
    · show b.val - 0 = b.val; omega
  · rw [if_neg e, dif_neg]
    intro hin
    have h2 : k ≤ j.val ∧ j.val < k + 1 := hin 0
    omega

/-- A vector as one row. -/
theorem lay_apply (i : IVec ⟨1, ![4]⟩ 32) (h : (⟨1, ![4]⟩ : Shape).BroadcastsInDim ⟨2, ![1, 4]⟩ ![1]) (b : Fin 4) :
    broadcastInDim ⟨2, ![1, 4]⟩ ![1] h i (ix2 0 b) = i (ix1 b) :=
  broadcastInDim_apply _ h i _ _ fun a => by fin_cases a; rfl

/-! ## One turn of the loop -/

/-- What the shapes of the loop over a cloud of `N` points, choosing `M`, have to satisfy. -/
structure Fits (N M : ℕ) : Prop where
  pos : 0 < num.numel
  column : (⟨1, ![4]⟩ : Shape).BroadcastsInDim ⟨3, ![4, 1, 1]⟩ ![0]
  one : num.BroadcastsInDim ⟨3, ![4, 1, 1]⟩ ![]
  rows : GatherDims.WF ⟨3, ![4, N, 3]⟩ ⟨3, ![4, 1, 1]⟩ ⟨3, ![4, 1, 3]⟩ [2] [1] [0] [1] [0] 2 ![1, 1, 3]
  spread : (⟨3, ![4, 1, 3]⟩ : Shape).BroadcastsInDim ⟨3, ![4, N, 3]⟩ ![0, 1, 2]
  coords : (⟨3, ![4, N, 3]⟩ : Shape).ReducesTo [2] ⟨2, ![4, N]⟩
  points : (⟨2, ![4, N]⟩ : Shape).ReducesTo [1] ⟨1, ![4]⟩
  lay : (⟨1, ![4]⟩ : Shape).BroadcastsInDim ⟨2, ![1, 4]⟩ ![1]
  table : (⟨2, ![M, 4]⟩ : Shape).Slices (fun _ => 0) ⟨2, ![1, 4]⟩

/-- The last chosen points. -/
def lastPoint (h : Fits N M) (n : BitVec 32) (x : Vec Ideal ⟨3, ![4, N, 3]⟩ .f32) (i : IVec ⟨1, ![4]⟩ 32) :
    Vec Ideal ⟨3, ![4, 1, 3]⟩ .f32 :=
  Host.gather (rowDims N 1 h.rows) x (wrap h.one n (broadcastInDim ⟨3, ![4, 1, 1]⟩ ![0] h.column i))

/-- The distances taken down by the last chosen points. -/
def nextDist (h : Fits N M) (n : BitVec 32) (x : Vec Ideal ⟨3, ![4, N, 3]⟩ .f32) (D : Vec Ideal ⟨2, ![4, N]⟩ .f32)
    (i : IVec ⟨1, ![4]⟩ 32) : Vec Ideal ⟨2, ![4, N]⟩ .f32 :=
  minimumf D (Host.reduceAdd (F := Ideal)
    (mulf (subf x (broadcastInDim ⟨3, ![4, N, 3]⟩ ![0, 1, 2] h.spread (lastPoint h n x i)))
      (subf x (broadcastInDim ⟨3, ![4, N, 3]⟩ ![0, 1, 2] h.spread (lastPoint h n x i))))
    (constant num .f32 0x00000000#32) h.coords h.pos)

/-- The next chosen indices, from the distances. -/
def nextIndex (h : Fits N M) (f : EReal × BitVec 32 → EReal × BitVec 32 → EReal × BitVec 32) (D : Vec Ideal ⟨2, ![4, N]⟩ .f32) :
    IVec ⟨1, ![4]⟩ 32 :=
  fun j => (Host.argReduce (F := Ideal) (φ := .f32) f D (iotaInDim ⟨2, ![4, N]⟩ 32 1) (constant num .f32 0xFF800000#32)
    (constantI num 32 0#32) h.points h.pos j).2

/-- The table with the next chosen indices in row `c`. -/
def nextTable (h : Fits N M) (T : IVec ⟨2, ![M, 4]⟩ 32) (c : IVec num 32) (i : IVec ⟨1, ![4]⟩ 32) : IVec ⟨2, ![M, 4]⟩ 32 :=
  Host.dynamicUpdateSlice T (broadcastInDim ⟨2, ![1, 4]⟩ ![1] h.lay i)
    (fun k => ((![c, constantI num 32 0#32] : Fin 2 → IVec num 32) k (Shape.Idx.first h.pos)).toInt) h.table

/-- After `k` turns the arrays hold the sampling's state: the distances, the last index, and the indices chosen so far. -/
structure Holds [NeZero N] (x : Vec Ideal ⟨3, ![4, N, 3]⟩ .f32) (k : ℕ) (D : Vec Ideal ⟨2, ![4, N]⟩ .f32)
    (i : IVec ⟨1, ![4]⟩ 32) (T : IVec ⟨2, ![M, 4]⟩ 32) : Prop where
  dist : ∀ b t, D (ix2 b t) = (state (cloud (Pyramid.rows x) b) k).1 t
  last : ∀ b, i (ix1 b) = BitVec.ofNat 32 (chosen (cloud (Pyramid.rows x) b) k).val
  table : ∀ (j : Fin M) b, j.val < k → T (ix2 j b) = BitVec.ofNat 32 (chosen (cloud (Pyramid.rows x) b) (j.val + 1)).val

section Turn
variable [NeZero N] (h : Fits N M) (hN : N < 2 ^ 31) (n : BitVec 32) (x : Vec Ideal ⟨3, ![4, N, 3]⟩ .f32)

include hN

theorem lastPoint_apply (i : IVec ⟨1, ![4]⟩ 32) (b : Fin 4) (a : Fin N) (hi : i (ix1 b) = BitVec.ofNat 32 a.val) (c : Fin 3) :
    lastPoint h n x i (ix3 b 0 c) = x (ix3 b a c) := by
  unfold lastPoint
  have ha := a.isLt
  refine gather_row h.rows x _ b 0 c a hN (wrap_apply _ _ _ _ _ (by omega) ?_)
  rw [column_apply, hi]

theorem nextDist_apply (D : Vec Ideal ⟨2, ![4, N]⟩ .f32) (i : IVec ⟨1, ![4]⟩ 32) (b : Fin 4) (a : Fin N)
    (hi : i (ix1 b) = BitVec.ofNat 32 a.val) (t : Fin N) :
    nextDist h n x D i (ix2 b t) = min (D (ix2 b t)) (gap (fun c => x (ix3 b t c)) (fun c => x (ix3 b a c))) := by
  unfold nextDist
  show min (D (ix2 b t)) _ = _
  rw [gap_apply]
  congr 2
  funext c
  rw [spread_point, lastPoint_apply h hN n x i b a hi]

/-- A turn of the loop carries the state on. -/
theorem Holds.next (f : EReal × BitVec 32 → EReal × BitVec 32 → EReal × BitVec 32) (hf : f = argMaxStep)
    (k : ℕ) (hk : k < M) (hM : M < 2 ^ 31) (c : IVec num 32) (hc : c = fun _ => BitVec.ofNat 32 k)
    (D : Vec Ideal ⟨2, ![4, N]⟩ .f32) (i : IVec ⟨1, ![4]⟩ 32) (T : IVec ⟨2, ![M, 4]⟩ 32) (H : Holds x k D i T) :
    Holds x (k + 1) (nextDist h n x D i) (nextIndex h f (nextDist h n x D i))
      (nextTable h T c (nextIndex h f (nextDist h n x D i))) := by
  have hD : ∀ b t, nextDist h n x D i (ix2 b t) = (state (cloud (Pyramid.rows x) b) (k + 1)).1 t := fun b t => by
    rw [nextDist_apply h hN n x D i b _ (H.last b), H.dist]; rfl
  have hI : ∀ b, nextIndex h f (nextDist h n x D i) (ix1 b) = BitVec.ofNat 32 (chosen (cloud (Pyramid.rows x) b) (k + 1)).val :=
    fun b => by
      refine (argMax_apply hN f hf _ h.points h.pos b).trans ?_
      rw [show (fun t => -nextDist h n x D i (ix2 b t)) = fun t => -(state (cloud (Pyramid.rows x) b) (k + 1)).1 t from
        funext fun t => by rw [hD]]
      rfl
  refine ⟨hD, hI, fun j b hj => ?_⟩
  unfold nextTable
  rw [table_apply T _ _ h.table k hk (by subst hc; exact toInt_nat k (by omega)) rfl, lay_apply, hI]
  by_cases e : j.val = k
  · rw [if_pos e, e]
  · rw [if_neg e, H.table j b (by omega)]

end Turn

/-- Before the first turn: the distances 1e10, index 0, and nothing chosen by the loop yet. -/
theorem Holds.start [NeZero N] (x : Vec Ideal ⟨3, ![4, N, 3]⟩ .f32) (h : num.BroadcastsInDim ⟨2, ![4, N]⟩ ![])
    (h' : num.BroadcastsInDim ⟨1, ![4]⟩ ![]) (T : IVec ⟨2, ![M, 4]⟩ 32) :
    Holds x 0 (broadcastInDim ⟨2, ![4, N]⟩ ![] h (constant (F := Ideal) num .f32 0x501502F9#32))
      (broadcastInDim ⟨1, ![4]⟩ ![] h' (constantI num 32 0#32)) T :=
  ⟨fun _ _ => rfl, fun _ => rfl, fun _ _ h => absurd h (Nat.not_lt_zero _)⟩

/-! ## The chosen points read off the cloud -/

/-- What the shapes of those lines have to satisfy. -/
structure PickFits (N M J : ℕ) : Prop where
  head : num.BroadcastsInDim ⟨2, ![1, 4]⟩ ![]
  join : Shape.Concatenates [⟨2, ![1, 4]⟩, ⟨2, ![M, 4]⟩] ⟨2, ![J, 4]⟩ 0
  turn : (⟨2, ![J, 4]⟩ : Shape).Transposes [1, 0] ⟨2, ![4, J]⟩
  column : (⟨2, ![4, J]⟩ : Shape).BroadcastsInDim ⟨3, ![4, J, 1]⟩ ![0, 1]
  one : num.BroadcastsInDim ⟨3, ![4, J, 1]⟩ ![]
  rows : GatherDims.WF ⟨3, ![4, N, 3]⟩ ⟨3, ![4, J, 1]⟩ ⟨3, ![4, J, 3]⟩ [2] [1] [0] [1] [0] 2 ![1, 1, 3]

/-- The table of chosen indices with index 0 put first, one row per cloud, as a column of one-element rows. -/
def picked (h : PickFits N M J) (T : IVec ⟨2, ![M, 4]⟩ 32) : IVec ⟨3, ![4, J, 1]⟩ 32 :=
  broadcastInDim ⟨3, ![4, J, 1]⟩ ![0, 1] h.column
    (transpose ⟨2, ![4, J]⟩ [1, 0]
      (concatenate ⟨2, ![J, 4]⟩ 0
        [⟨⟨2, ![1, 4]⟩, broadcastInDim ⟨2, ![1, 4]⟩ ![] h.head (constantI num 32 0#32)⟩, ⟨⟨2, ![M, 4]⟩, T⟩] h.join) h.turn)

/-- Those points. -/
def taken (h : PickFits N M J) (n : BitVec 32) (x : Vec Ideal ⟨3, ![4, N, 3]⟩ .f32) (i : IVec ⟨3, ![4, J, 1]⟩ 32) :
    Vec Ideal ⟨3, ![4, J, 3]⟩ .f32 :=
  Host.gather (rowDims N J h.rows) x (wrap h.one n i)

theorem picked_apply (h : PickFits N M J) (T : IVec ⟨2, ![M, 4]⟩ 32) (b : Fin 4) (j : Fin J) :
    picked h T (ix3 b j 0) = concatenate ⟨2, ![J, 4]⟩ 0
        [⟨⟨2, ![1, 4]⟩, broadcastInDim ⟨2, ![1, 4]⟩ ![] h.head (constantI num 32 0#32)⟩, ⟨⟨2, ![M, 4]⟩, T⟩] h.join (ix2 j b) := by
  unfold picked
  have hj := j.isLt
  rw [broadcastInDim_apply _ h.column _ (ix3 b j 0) (ix2 b j) fun a => by
    fin_cases a
    · rfl
    · show j.val = if J = 1 then 0 else j.val
      split <;> omega]
  exact transpose_apply _ _ h.turn _ (ix2 j b) fun a => by fin_cases a <;> rfl

/-- The points taken after all `M` turns are the sampling of `M + 1` points. -/
theorem taken_eq [NeZero N] (hN : N < 2 ^ 31) (hJ : J = M + 1) (h : PickFits N M J) (n : BitVec 32) (x : Vec Ideal ⟨3, ![4, N, 3]⟩ .f32)
    (D : Vec Ideal ⟨2, ![4, N]⟩ .f32) (i : IVec ⟨1, ![4]⟩ 32) (T : IVec ⟨2, ![M, 4]⟩ 32) (H : Holds x M D i T) :
    taken h n x (picked h T) = sample J x := by
  have key : ∀ b (j : Fin J), picked h T (ix3 b j 0) = BitVec.ofNat 32 (chosen (cloud (Pyramid.rows x) b) j.val).val := by
    intro b j
    rw [picked_apply]
    by_cases e : j.val = 0
    · rw [concatenate_pair_apply_left 0 _ _ h.join (ix2 j b) rfl (ix2 0 b) fun a => by
        fin_cases a
        · exact e.symm
        · rfl, e]
      rfl
    · have hj := j.isLt
      rw [concatenate_pair_apply_right 0 _ _ h.join (ix2 j b) rfl rfl (ix2 ⟨j.val - 1, by omega⟩ b)
        (fun a ha => by
          fin_cases a
          · exact absurd rfl ha
          · rfl)
        (by show j.val - 1 + 1 = j.val; omega)]
      rw [H.table _ b (by show j.val - 1 < M; omega)]
      congr 3
      show j.val - 1 + 1 = j.val; omega
  funext k
  obtain ⟨b, j, c, rfl⟩ : ∃ b j c, k = ix3 b j c := ⟨k 0, k 1, k 2, eq_ix3 k⟩
  have ha := (chosen (cloud (Pyramid.rows x) b) j.val).isLt
  exact gather_row h.rows x _ b j c _ hN (wrap_apply _ _ _ _ _ (by omega) (key b j))

end Cert.Rows

end
-- ==== Proof.RefLoops.lean ====
/-
  THE REFERENCE'S TWO LOOPS. The lines of the reference's sampling read off its run: after the first loop and the lines behind it
  the middle layer lies in its buffer, after the second the coarsest.
-/
module

public import proofs.«01_k».proof.Proof.RefRun
public import proofs.«01_k».proof.Proof.RefFps
public import Idealize.ShloMosaic.Lib.StableHlo.RunRead

@[expose] public section

noncomputable section

namespace Cert.ReferenceIdeal

open Idealize.ShloMosaic Idealize.ShloMosaic.TcCoe Idealize.ShloMosaic.StableHlo
open Cert.ReferenceIdeal.Gen Cert.Rows Cert.First Cert.Fps Cert.Pyramid

/-- The body of the reference's arg-max is a step of the arg-max over (value, position) pairs. -/
theorem reducer_eq : (reducer_argmax_f32_i32 (F := Ideal)) = argMaxStep := by
  funext a b
  unfold reducer_argmax_f32_i32 argMaxStep
  have e1 : IntOp.ori (FloatOps.cmpf .ogt a.1 b.1) (FloatOps.cmpf .une a.1 a.1) = if b.1 < a.1 then 1#1 else 0#1 := by
    simp only [Ideal.cmpf_def, Ideal.cmp]
    by_cases h : b.1 < a.1 <;> simp [h, IntOp.ori]
  have e2 : FloatOps.cmpf .oeq a.1 b.1 = if a.1 = b.1 then 1#1 else 0#1 := by
    simp only [Ideal.cmpf_def, Ideal.cmp]
    by_cases h : a.1 = b.1 <;> simp [h]
  have e3 : IntOp.cmpi .slt a.2 b.2 = if a.2.toInt < b.2.toInt then 1#1 else 0#1 := by
    by_cases h : a.2.toInt < b.2.toInt
    · simp [IntOp.cmpi, h, BitVec.slt_iff_toInt_lt.mpr h]
    · have : ¬ (a.2.slt b.2 = true) := fun h' => h (BitVec.slt_iff_toInt_lt.mp h')
      simp [IntOp.cmpi, h, this]
  dsimp only
  rw [e1, e2, e3]
  have e4 : ∀ x : BitVec 1, 1#1 ||| x = 1#1 := by decide
  by_cases h1 : b.1 < a.1
  · simp [h1, e4, IntOp.ori, Scalar.select]
  · by_cases h2 : a.1 = b.1
    · by_cases h3 : a.2.toInt < b.2.toInt
      · simp [h2, h3, IntOp.ori, IntOp.andi, Scalar.select]
        exact Prod.ext h2.symm rfl
      · simp [h2, h3, IntOp.ori, IntOp.andi, Scalar.select]
    · simp [h1, h2, IntOp.ori, IntOp.andi, Scalar.select]

/-- The table written depends on the row numbers alone. -/
theorem table_congr {M : ℕ} (T : IVec ⟨2, ![M, 4]⟩ 32) (u : IVec ⟨2, ![1, 4]⟩ 32) (h0 : 0 < num.numel)
    (h : (⟨2, ![M, 4]⟩ : Shape).Slices (fun _ => 0) ⟨2, ![1, 4]⟩) (i i' : Fin 2 → IVec num 32) (e : i = i') :
    Host.dynamicUpdateSlice T u (fun k => (i k (Shape.Idx.first h0)).toInt) h
      = Host.dynamicUpdateSlice T u (fun k => (i' k (Shape.Idx.first h0)).toInt) h := by
  rw [e]

theorem fitsA : Fits 4096 1023 :=
  ⟨h_S_, bcast_S4_S4x1x1_0, bcast_S_S4x1x1, gather_S4x4096x3_S4x1x1_S4x1x3_2_1_0_0_1_2_113_wf, bcast_S4x1x3_S4x4096x3_0_1_2,
    reducesTo_S4x4096x3_S4x4096_d2, reducesTo_S4x4096_S4_d1, bcast_S4_S1x4_1, updateFits_S1023x4_S1x4⟩

variable (V : Valuation τ sig (Elt Ideal))

theorem loopA0_read : after loopA0 V (Proc.devRef .tc main_while0b_v116)
    = broadcastInDim S4x1x1 ![0] fitsA.column (V (Proc.devRef .tc main_v3_3)) := by
  after_results

theorem loopA1_read : after loopA1 V (Proc.devRef .tc main_while0b_v117)
    = Host.gather (rowDims 4096 1 fitsA.rows) (V (Proc.devRef .tc main_v3_0))
        (wrap fitsA.one 4096#32 (V (Proc.devRef .tc main_while0b_v116))) := by
  after_results; rfl

theorem loopA2_read : after loopA2 V (Proc.devRef .tc main_while0b_v122)
    = minimumf (V (Proc.devRef .tc main_v3_2)) (Host.reduceAdd (F := Ideal)
        (mulf (subf (V (Proc.devRef .tc main_v3_0)) (broadcastInDim S4x4096x3 ![0, 1, 2] fitsA.spread (V (Proc.devRef .tc main_while0b_v117))))
          (subf (V (Proc.devRef .tc main_v3_0)) (broadcastInDim S4x4096x3 ![0, 1, 2] fitsA.spread (V (Proc.devRef .tc main_while0b_v117)))))
        (constant S_ .f32 0x00000000#32) fitsA.coords h_S_) := by
  after_results

theorem loopA3_read : after loopA3 V (Proc.devRef .tc main_while0b_v123)
    = nextIndex fitsA (reducer_argmax_f32_i32 (F := Ideal)) (V (Proc.devRef .tc main_while0b_v122)) := by
  after_results; rfl

theorem loopA4_read : after loopA4 V (Proc.devRef .tc main_while0b_v124)
    = nextTable fitsA (V (Proc.devRef .tc main_v3_4)) (V (Proc.devRef .tc main_v3_1)) (V (Proc.devRef .tc main_while0b_v123)) := by
  after_results
  refine table_congr _ _ h_S_ _ _ _ (funext fun k => ?_)
  fin_cases k
  · exact (nullary_result_ne _ _ _ _ (by decide)).trans (unary_result_ne _ _ _ _ _ _ (by decide))
  · exact nullary_result _ _ _ _

/-- What one turn of the first loop leaves in the buffers it carries. -/
theorem turnA_reads :
    let W := after loopA5 (after loopA4 (after loopA3 (after loopA2 (after loopA1 (after loopA0 (after testA V))))))
    W (Proc.devRef .tc main_v3_0) = V (Proc.devRef .tc main_v3_0)
      ∧ W (Proc.devRef .tc main_v3_2)
          = nextDist fitsA 4096#32 (V (Proc.devRef .tc main_v3_0)) (V (Proc.devRef .tc main_v3_2)) (V (Proc.devRef .tc main_v3_3))
      ∧ W (Proc.devRef .tc main_v3_3) = nextIndex fitsA (reducer_argmax_f32_i32 (F := Ideal)) (W (Proc.devRef .tc main_v3_2))
      ∧ W (Proc.devRef .tc main_v3_4)
          = nextTable fitsA (V (Proc.devRef .tc main_v3_4)) (V (Proc.devRef .tc main_v3_1)) (W (Proc.devRef .tc main_v3_3)) := by
  intro W
  have r0 : ∀ U : Valuation τ sig (Elt Ideal), after loopA5 U (Proc.devRef .tc main_v3_2) = U (Proc.devRef .tc main_while0b_v122)
      ∧ after loopA5 U (Proc.devRef .tc main_v3_3) = U (Proc.devRef .tc main_while0b_v123)
      ∧ after loopA5 U (Proc.devRef .tc main_v3_4) = U (Proc.devRef .tc main_while0b_v124) := fun U => by
    refine ⟨?_, ?_, ?_⟩ <;> (after_results; rfl)
  have d : W (Proc.devRef .tc main_v3_2) = after loopA2 (after loopA1 (after loopA0 (after testA V))) (Proc.devRef .tc main_while0b_v122) := by
    refine (r0 _).1.trans ?_
    rw [after_of_writes_sub _ _ loopA4_writes (by decide), after_of_writes_sub _ _ loopA3_writes (by decide)]
  have i : W (Proc.devRef .tc main_v3_3)
      = after loopA3 (after loopA2 (after loopA1 (after loopA0 (after testA V)))) (Proc.devRef .tc main_while0b_v123) := by
    refine (r0 _).2.1.trans ?_
    rw [after_of_writes_sub _ _ loopA4_writes (by decide)]
  refine ⟨?_, ?_, ?_, ?_⟩
  · exact (after_of_writes_sub _ _ loopA5_writes (by decide)).trans (beforeA V main_v3_0 (by decide))
  · rw [d, loopA2_read, loopA1_read,
      after_of_writes_sub (r := main_v3_0) loopA1 _ loopA1_writes (by decide), after_of_writes_sub (r := main_v3_0) loopA0 _ loopA0_writes (by decide),
      after_of_writes_sub (r := main_v3_0) testA _ testA_writes (by decide),
      after_of_writes_sub (r := main_v3_2) loopA1 _ loopA1_writes (by decide), after_of_writes_sub (r := main_v3_2) loopA0 _ loopA0_writes (by decide),
      after_of_writes_sub (r := main_v3_2) testA _ testA_writes (by decide),
      loopA0_read, after_of_writes_sub (r := main_v3_3) testA _ testA_writes (by decide)]
    rfl
  · rw [i, d, loopA3_read]
  · rw [i]
    refine (r0 _).2.2.trans ?_
    rw [loopA4_read]
    congr 1

/-- What the lines before the first loop put into the buffers it carries. -/
theorem startA_reads : after startA V (Proc.devRef .tc main_v3_0) = V (Proc.devRef .tc main_arg0)
    ∧ after startA V (Proc.devRef .tc main_v3_2) = broadcastInDim S4x4096 ![] bcast_S_S4x4096 (constant (F := Ideal) S_ .f32 0x501502F9#32)
    ∧ after startA V (Proc.devRef .tc main_v3_3) = broadcastInDim S4 ![] bcast_S_S4 (constantI S_ 32 0#32) := by
  refine ⟨?_, ?_, ?_⟩ <;> (after_results; rfl)

/-- After `k` turns the first loop's buffers hold the state of the sampling of the points. -/
theorem atA_holds (m : (ℓ : Loc nD τ sig) → Buf (Elt Ideal) ℓ) (c : Dev nD) : ∀ k ≤ 1023,
    atA m k c (Proc.devRef .tc main_v3_0) = m ((c.tc : Thread nD τ).loc main_arg0)
      ∧ Holds (N := 4096) (M := 1023) (m ((c.tc : Thread nD τ).loc main_arg0)) k (atA m k c (Proc.devRef .tc main_v3_2))
        (atA m k c (Proc.devRef .tc main_v3_3)) (atA m k c (Proc.devRef .tc main_v3_4))
  | 0, _ => by
    obtain ⟨e0, e2, e3⟩ := startA_reads (launchContents m c)
    rw [show atA m 0 c = after startA (launchContents m c) from rfl, e2, e3]
    refine ⟨e0, ?_⟩
    exact Holds.start _ bcast_S_S4x4096 bcast_S_S4 _
  | k + 1, hk => by
    obtain ⟨h0, H⟩ := atA_holds m c k (by omega)
    have r := turnA_reads (atA m k c)
    rw [← atA_succ] at r
    obtain ⟨r0, r2, r3, r4⟩ := r
    refine ⟨r0.trans h0, ?_⟩
    rw [r4, r3, r2, h0]
    refine Holds.next fitsA (by norm_num) 4096#32 _ _ reducer_eq k (by omega) (by norm_num) _ ?_ _ _ _ H
    rw [atA_counter]
    funext _
    simp [Scf.iv]

theorem picksA : PickFits 4096 1023 1024 :=
  ⟨bcast_S_S1x4, concatenates_S1x4_S1023x4_S1024x4_d0, transposes_S1024x4_S4x1024_1_0, bcast_S4x1024_S4x1024x1_0_1, bcast_S_S4x1024x1,
    gather_S4x4096x3_S4x1024x1_S4x1024x3_2_1_0_0_1_2_113_wf⟩

theorem pickA_read : after pickA V (Proc.devRef .tc main_v7) = picked picksA (V (Proc.devRef .tc main_v3_4)) := by
  after_results; rfl

theorem takeA_read : after takeA V (Proc.devRef .tc main_v8)
    = taken picksA 4096#32 (V (Proc.devRef .tc main_arg0)) (V (Proc.devRef .tc main_v7)) := by
  after_results; rfl

/-- A buffer the first loop does not write is after it as before it. -/
theorem keptA (m : (ℓ : Loc nD τ sig) → Buf (Elt Ideal) ℓ) (c : Dev nD) (r : Ref sig .tc)
    (h : r ∉ testA_W ++ loopA0_W ++ loopA1_W ++ loopA2_W ++ loopA3_W ++ loopA4_W) (h5 : r ∉ loopA5_W) :
    ∀ k, atA m k c (Proc.devRef .tc r) = inA m c (Proc.devRef .tc r)
  | 0 => rfl
  | k + 1 => by rw [atA_succ, after_of_writes_sub _ _ loopA5_writes h5, beforeA _ _ h, keptA m c r h h5 k]

/-- After the first loop the middle layer lies in its buffer, and the points are as they were. -/
theorem inB_layer1 (m : (ℓ : Loc nD τ sig) → Buf (Elt Ideal) ℓ) (c : Dev nD) :
    inB m c (Proc.devRef .tc main_v8) = layer1 (m ((c.tc : Thread nD τ).loc main_arg0))
      ∧ inB m c (Proc.devRef .tc main_arg0) = m ((c.tc : Thread nD τ).loc main_arg0) := by
  have ha : ∀ k, atA m k c (Proc.devRef .tc main_arg0) = m ((c.tc : Thread nD τ).loc main_arg0) := fun k => by
    rw [keptA m c main_arg0 (by decide) (by decide) k]
    exact after_of_writes_sub _ _ startA_writes (by decide)
  rw [show inB m c = after startB (after takeA (after pickA (after testA (atA m 1023 c)))) from rfl]
  constructor
  · rw [after_of_writes_sub _ _ startB_writes (by decide), takeA_read, pickA_read,
      after_of_writes_sub (r := main_arg0) pickA _ pickA_writes (by decide), after_of_writes_sub (r := main_arg0) testA _ testA_writes (by decide),
      ha, after_of_writes_sub (r := main_v3_4) testA _ testA_writes (by decide)]
    exact taken_eq (by norm_num) rfl picksA _ _ _ _ _ (atA_holds m c 1023 le_rfl).2
  · rw [after_of_writes_sub _ _ startB_writes (by decide), after_of_writes_sub _ _ takeA_writes (by decide),
      after_of_writes_sub _ _ pickA_writes (by decide), after_of_writes_sub _ _ testA_writes (by decide), ha]

/-! ## The second loop -/

theorem fitsB : Fits 1024 255 :=
  ⟨h_S_, bcast_S4_S4x1x1_0, bcast_S_S4x1x1, gather_S4x1024x3_S4x1x1_S4x1x3_2_1_0_0_1_2_113_wf, bcast_S4x1x3_S4x1024x3_0_1_2,
    reducesTo_S4x1024x3_S4x1024_d2, reducesTo_S4x1024_S4_d1, bcast_S4_S1x4_1, updateFits_S255x4_S1x4⟩

theorem loopB0_read : after loopB0 V (Proc.devRef .tc main_while1b_v116)
    = broadcastInDim S4x1x1 ![0] fitsB.column (V (Proc.devRef .tc main_v12_3)) := by
  after_results

theorem loopB1_read : after loopB1 V (Proc.devRef .tc main_while1b_v117)
    = Host.gather (rowDims 1024 1 fitsB.rows) (V (Proc.devRef .tc main_v12_0))
        (wrap fitsB.one 1024#32 (V (Proc.devRef .tc main_while1b_v116))) := by
  after_results; rfl

theorem loopB2_read : after loopB2 V (Proc.devRef .tc main_while1b_v122)
    = minimumf (V (Proc.devRef .tc main_v12_2)) (Host.reduceAdd (F := Ideal)
        (mulf (subf (V (Proc.devRef .tc main_v12_0)) (broadcastInDim S4x1024x3 ![0, 1, 2] fitsB.spread (V (Proc.devRef .tc main_while1b_v117))))
          (subf (V (Proc.devRef .tc main_v12_0)) (broadcastInDim S4x1024x3 ![0, 1, 2] fitsB.spread (V (Proc.devRef .tc main_while1b_v117)))))
        (constant S_ .f32 0x00000000#32) fitsB.coords h_S_) := by
  after_results

theorem loopB3_read : after loopB3 V (Proc.devRef .tc main_while1b_v123)
    = nextIndex fitsB (reducer_argmax_f32_i32 (F := Ideal)) (V (Proc.devRef .tc main_while1b_v122)) := by
  after_results; rfl

theorem loopB4_read : after loopB4 V (Proc.devRef .tc main_while1b_v124)
    = nextTable fitsB (V (Proc.devRef .tc main_v12_4)) (V (Proc.devRef .tc main_v12_1)) (V (Proc.devRef .tc main_while1b_v123)) := by
  after_results
  refine table_congr _ _ h_S_ _ _ _ (funext fun k => ?_)
  fin_cases k
  · exact (nullary_result_ne _ _ _ _ (by decide)).trans (unary_result_ne _ _ _ _ _ _ (by decide))
  · exact nullary_result _ _ _ _

/-- What one turn of the second loop leaves in the buffers it carries. -/
theorem turnB_reads :
    let W := after loopB5 (after loopB4 (after loopB3 (after loopB2 (after loopB1 (after loopB0 (after testB V))))))
    W (Proc.devRef .tc main_v12_0) = V (Proc.devRef .tc main_v12_0)
      ∧ W (Proc.devRef .tc main_v12_2)
          = nextDist fitsB 1024#32 (V (Proc.devRef .tc main_v12_0)) (V (Proc.devRef .tc main_v12_2)) (V (Proc.devRef .tc main_v12_3))
      ∧ W (Proc.devRef .tc main_v12_3) = nextIndex fitsB (reducer_argmax_f32_i32 (F := Ideal)) (W (Proc.devRef .tc main_v12_2))
      ∧ W (Proc.devRef .tc main_v12_4)
          = nextTable fitsB (V (Proc.devRef .tc main_v12_4)) (V (Proc.devRef .tc main_v12_1)) (W (Proc.devRef .tc main_v12_3)) := by
  intro W
  have r0 : ∀ U : Valuation τ sig (Elt Ideal), after loopB5 U (Proc.devRef .tc main_v12_2) = U (Proc.devRef .tc main_while1b_v122)
      ∧ after loopB5 U (Proc.devRef .tc main_v12_3) = U (Proc.devRef .tc main_while1b_v123)
      ∧ after loopB5 U (Proc.devRef .tc main_v12_4) = U (Proc.devRef .tc main_while1b_v124) := fun U => by
    refine ⟨?_, ?_, ?_⟩ <;> (after_results; rfl)
  have d : W (Proc.devRef .tc main_v12_2) = after loopB2 (after loopB1 (after loopB0 (after testB V))) (Proc.devRef .tc main_while1b_v122) := by
    refine (r0 _).1.trans ?_
    rw [after_of_writes_sub _ _ loopB4_writes (by decide), after_of_writes_sub _ _ loopB3_writes (by decide)]
  have i : W (Proc.devRef .tc main_v12_3)
      = after loopB3 (after loopB2 (after loopB1 (after loopB0 (after testB V)))) (Proc.devRef .tc main_while1b_v123) := by
    refine (r0 _).2.1.trans ?_
    rw [after_of_writes_sub _ _ loopB4_writes (by decide)]
  refine ⟨?_, ?_, ?_, ?_⟩
  · exact (after_of_writes_sub _ _ loopB5_writes (by decide)).trans (beforeB V main_v12_0 (by decide))
  · rw [d, loopB2_read, loopB1_read,
      after_of_writes_sub (r := main_v12_0) loopB1 _ loopB1_writes (by decide), after_of_writes_sub (r := main_v12_0) loopB0 _ loopB0_writes (by decide),
      after_of_writes_sub (r := main_v12_0) testB _ testB_writes (by decide),
      after_of_writes_sub (r := main_v12_2) loopB1 _ loopB1_writes (by decide), after_of_writes_sub (r := main_v12_2) loopB0 _ loopB0_writes (by decide),
      after_of_writes_sub (r := main_v12_2) testB _ testB_writes (by decide),
      loopB0_read, after_of_writes_sub (r := main_v12_3) testB _ testB_writes (by decide)]
    rfl
  · rw [i, d, loopB3_read]
  · rw [i]
    refine (r0 _).2.2.trans ?_
    rw [loopB4_read]
    congr 1

/-- What the lines before the second loop put into the buffers it carries. -/
theorem startB_reads : after startB V (Proc.devRef .tc main_v12_0) = V (Proc.devRef .tc main_v8)
    ∧ after startB V (Proc.devRef .tc main_v12_2) = broadcastInDim S4x1024 ![] bcast_S_S4x1024 (constant (F := Ideal) S_ .f32 0x501502F9#32)
    ∧ after startB V (Proc.devRef .tc main_v12_3) = broadcastInDim S4 ![] bcast_S_S4 (constantI S_ 32 0#32) := by
  refine ⟨?_, ?_, ?_⟩ <;> (after_results; rfl)

/-- After `k` turns the second loop's buffers hold the state of the sampling of the points. -/
theorem atB_holds (m : (ℓ : Loc nD τ sig) → Buf (Elt Ideal) ℓ) (c : Dev nD) : ∀ k ≤ 255,
    atB m k c (Proc.devRef .tc main_v12_0) = inB m c (Proc.devRef .tc main_v8)
      ∧ Holds (N := 1024) (M := 255) (inB m c (Proc.devRef .tc main_v8)) k (atB m k c (Proc.devRef .tc main_v12_2))
        (atB m k c (Proc.devRef .tc main_v12_3)) (atB m k c (Proc.devRef .tc main_v12_4))
  | 0, _ => by
    obtain ⟨e0, e2, e3⟩ := startB_reads (after takeA (after pickA (outA m c)))
    rw [show atB m 0 c = after startB (after takeA (after pickA (outA m c))) from rfl, e2, e3]
    refine ⟨e0.trans ?_, ?_⟩
    · rw [show inB m c = after startB (after takeA (after pickA (outA m c))) from rfl, after_of_writes_sub _ _ startB_writes (by decide)]
    · exact Holds.start _ bcast_S_S4x1024 bcast_S_S4 _
  | k + 1, hk => by
    obtain ⟨h0, H⟩ := atB_holds m c k (by omega)
    have r := turnB_reads (atB m k c)
    rw [← atB_succ] at r
    obtain ⟨r0, r2, r3, r4⟩ := r
    refine ⟨r0.trans h0, ?_⟩
    rw [r4, r3, r2, h0]
    refine Holds.next fitsB (by norm_num) 1024#32 _ _ reducer_eq k (by omega) (by norm_num) _ ?_ _ _ _ H
    rw [atB_counter]
    funext _
    simp [Scf.iv]

theorem picksB : PickFits 1024 255 256 :=
  ⟨bcast_S_S1x4, concatenates_S1x4_S255x4_S256x4_d0, transposes_S256x4_S4x256_1_0, bcast_S4x256_S4x256x1_0_1, bcast_S_S4x256x1,
    gather_S4x1024x3_S4x256x1_S4x256x3_2_1_0_0_1_2_113_wf⟩

theorem pickB_read : after pickB V (Proc.devRef .tc main_v16) = picked picksB (V (Proc.devRef .tc main_v12_4)) := by
  after_results; rfl

theorem takeB_read : after takeB V (Proc.devRef .tc main_v17)
    = taken picksB 1024#32 (V (Proc.devRef .tc main_v8)) (V (Proc.devRef .tc main_v16)) := by
  after_results; rfl

/-- A buffer the second loop does not write is after it as before it. -/
theorem keptB (m : (ℓ : Loc nD τ sig) → Buf (Elt Ideal) ℓ) (c : Dev nD) (r : Ref sig .tc)
    (h : r ∉ testB_W ++ loopB0_W ++ loopB1_W ++ loopB2_W ++ loopB3_W ++ loopB4_W) (h5 : r ∉ loopB5_W) :
    ∀ k, atB m k c (Proc.devRef .tc r) = inB m c (Proc.devRef .tc r)
  | 0 => rfl
  | k + 1 => by rw [atB_succ, after_of_writes_sub _ _ loopB5_writes h5, beforeB _ _ h, keptB m c r h h5 k]

/-- A buffer written neither by the second loop nor by the lines behind it is at the end as before the loop. -/
theorem points_kept (m : (ℓ : Loc nD τ sig) → Buf (Elt Ideal) ℓ) (c : Dev nD) (r : Ref sig .tc)
    (h : r ∉ testB_W ++ loopB0_W ++ loopB1_W ++ loopB2_W ++ loopB3_W ++ loopB4_W) (h5 : r ∉ loopB5_W)
    (ht : r ∉ testB_W) (hp : r ∉ pickB_W) (hk : r ∉ takeB_W) : points m c (Proc.devRef .tc r) = inB m c (Proc.devRef .tc r) := by
  rw [show points m c = after takeB (after pickB (after testB (atB m 255 c))) from rfl, after_of_writes_sub _ _ takeB_writes hk,
    after_of_writes_sub _ _ pickB_writes hp, after_of_writes_sub _ _ testB_writes ht, keptB m c r h h5]

/-- Once both levels are sampled the points, the middle layer and the coarsest lie in their buffers. -/
theorem points_layers (m : (ℓ : Loc nD τ sig) → Buf (Elt Ideal) ℓ) (c : Dev nD) :
    points m c (Proc.devRef .tc main_arg0) = m ((c.tc : Thread nD τ).loc main_arg0)
      ∧ points m c (Proc.devRef .tc main_v8) = layer1 (m ((c.tc : Thread nD τ).loc main_arg0))
      ∧ points m c (Proc.devRef .tc main_v17) = layer2 (m ((c.tc : Thread nD τ).loc main_arg0)) := by
  refine ⟨?_, ?_, ?_⟩
  · rw [points_kept m c main_arg0 (by decide) (by decide) (by decide) (by decide) (by decide), (inB_layer1 m c).2]
  · rw [points_kept m c main_v8 (by decide) (by decide) (by decide) (by decide) (by decide), (inB_layer1 m c).1]
  · rw [show points m c = after takeB (after pickB (after testB (atB m 255 c))) from rfl, takeB_read, pickB_read,
      after_of_writes_sub (r := main_v8) pickB _ pickB_writes (by decide), after_of_writes_sub (r := main_v8) testB _ testB_writes (by decide),
      keptB m c main_v8 (by decide) (by decide), after_of_writes_sub (r := main_v12_4) testB _ testB_writes (by decide)]
    rw [taken_eq (by norm_num) rfl picksB _ _ _ _ _ (atB_holds m c 255 le_rfl).2, (inB_layer1 m c).1]
    rfl

end Cert.ReferenceIdeal

end
-- ==== Proof.RefNear.lean ====
/-
  THE REFERENCE'S NEIGHBOUR SEARCH. Its lines for any number of queries `Q` and of supports `S`, as one function of the two point
  arrays: squared norms, products, distances, and a sort of the negated distances cut to its first sixteen. On points with real
  coordinates it is the sixteen nearest supports of `Cert.Pyramid.neighbours`.
-/
module

public import proofs.«01_k».proof.Proof.RefGather
public import proofs.«01_k».proof.Proof.Pyramid
public import Idealize.ShloMosaic.Lib.Pipeline.Value

@[expose] public section

noncomputable section

namespace Cert.RefNear

open Idealize.ShloMosaic Cert.First Cert.Knn Cert.Pyramid

variable {N Q S : ℕ}

/-- The shape of a single number. -/
abbrev num : Shape := ⟨0, ![]⟩

/-- The dimension numbers of the products of every query with every support: axis 0 counts the clouds, axis 2 is summed. -/
def crossDims (Q S : ℕ) (wf : DotDims.WF ⟨3, ![4, Q, 3]⟩ ⟨3, ![4, S, 3]⟩ ⟨3, ![4, Q, S]⟩ [2] [2] [1] [1] [0] [0]) :
    DotDims ⟨3, ![4, Q, 3]⟩ ⟨3, ![4, S, 3]⟩ ⟨3, ![4, Q, S]⟩ where
  lhsContracting := [2]
  rhsContracting := [2]
  lhsNonContracting := [1]
  rhsNonContracting := [1]
  lhsBatch := [0]
  rhsBatch := [0]
  wf := wf

/-- What the shapes of those lines have to satisfy. -/
structure Fits (Q S : ℕ) : Prop where
  pos : 0 < num.numel
  qs : (⟨3, ![4, Q, 3]⟩ : Shape).ReducesTo [2] ⟨2, ![4, Q]⟩
  ss : (⟨3, ![4, S, 3]⟩ : Shape).ReducesTo [2] ⟨2, ![4, S]⟩
  column : (⟨2, ![4, Q]⟩ : Shape).BroadcastsInDim ⟨3, ![4, Q, 1]⟩ ![0, 1]
  row : (⟨2, ![4, S]⟩ : Shape).BroadcastsInDim ⟨3, ![4, 1, S]⟩ ![0, 2]
  columns : (⟨3, ![4, Q, 1]⟩ : Shape).BroadcastsInDim ⟨3, ![4, Q, S]⟩ ![0, 1, 2]
  rows : (⟨3, ![4, 1, S]⟩ : Shape).BroadcastsInDim ⟨3, ![4, Q, S]⟩ ![0, 1, 2]
  dot : DotDims.WF ⟨3, ![4, Q, 3]⟩ ⟨3, ![4, S, 3]⟩ ⟨3, ![4, Q, S]⟩ [2] [2] [1] [1] [0] [0]
  two : num.BroadcastsInDim ⟨3, ![4, Q, S]⟩ ![]
  cut : (⟨3, ![4, Q, S]⟩ : Shape).Slices (fun _ => 0) ⟨3, ![4, Q, 16]⟩

/-- The squared norms of a point array. -/
def norms (h0 : 0 < num.numel) (h : (⟨3, ![4, N, 3]⟩ : Shape).ReducesTo [2] ⟨2, ![4, N]⟩) (p : Vec Ideal ⟨3, ![4, N, 3]⟩ .f32) :
    Vec Ideal ⟨2, ![4, N]⟩ .f32 :=
  Host.reduceAdd (F := Ideal) (mulf p p) (constant num .f32 0x00000000#32) h h0

/-- The negated squared distances, from the queries' squared norms as columns and the supports'. -/
def scores (h : Fits Q S) (nq : Vec Ideal ⟨3, ![4, Q, 1]⟩ .f32) (ns : Vec Ideal ⟨2, ![4, S]⟩ .f32)
    (q : Vec Ideal ⟨3, ![4, Q, 3]⟩ .f32) (s : Vec Ideal ⟨3, ![4, S, 3]⟩ .f32) : Vec Ideal ⟨3, ![4, Q, S]⟩ .f32 :=
  Host.negf (F := Ideal) (subf
    (addf (broadcastInDim ⟨3, ![4, Q, S]⟩ ![0, 1, 2] h.columns nq)
      (broadcastInDim ⟨3, ![4, Q, S]⟩ ![0, 1, 2] h.rows (broadcastInDim ⟨3, ![4, 1, S]⟩ ![0, 2] h.row ns)))
    (mulf (broadcastInDim ⟨3, ![4, Q, S]⟩ ![] h.two (constant num .f32 0x40000000#32))
      (Host.dotGeneral (F := Ideal) (φ₁ := .f32) (φ₂ := .f32) (crossDims Q S h.dot) none q s)))

/-- The positions of the sixteen greatest. -/
def searchFrom (h : Fits Q S) (nq : Vec Ideal ⟨3, ![4, Q, 1]⟩ .f32) (ns : Vec Ideal ⟨2, ![4, S]⟩ .f32)
    (q : Vec Ideal ⟨3, ![4, Q, 3]⟩ .f32) (s : Vec Ideal ⟨3, ![4, S, 3]⟩ .f32) : IVec ⟨3, ![4, Q, 16]⟩ 32 :=
  (Host.topK ⟨3, ![4, Q, 16]⟩ 2 (FloatOps.cmpfTotal (F := Ideal) (φ := .f32) .gt) (scores h nq ns q s) h.cut).2

/-- The queries' squared norms as columns. -/
def columnNorms (h : Fits Q S) (q : Vec Ideal ⟨3, ![4, Q, 3]⟩ .f32) : Vec Ideal ⟨3, ![4, Q, 1]⟩ .f32 :=
  broadcastInDim ⟨3, ![4, Q, 1]⟩ ![0, 1] h.column (norms h.pos h.qs q)

/-- The whole search. -/
def search (h : Fits Q S) (q : Vec Ideal ⟨3, ![4, Q, 3]⟩ .f32) (s : Vec Ideal ⟨3, ![4, S, 3]⟩ .f32) : IVec ⟨3, ![4, Q, 16]⟩ 32 :=
  searchFrom h (columnNorms h q) (norms h.pos h.ss s) q s

/-! ## The lines read at an index -/

theorem norms_apply (h0 : 0 < num.numel) (h : (⟨3, ![4, N, 3]⟩ : Shape).ReducesTo [2] ⟨2, ![4, N]⟩) (p : Vec Ideal ⟨3, ![4, N, 3]⟩ .f32)
    (b : Fin 4) (k : Fin N) : norms h0 h p (ix2 b k) = ∑ c, p (ix3 b k c) * p (ix3 b k c) := by
  unfold norms
  pointwise

theorem spread_columns (h : Fits Q S) (x : Vec Ideal ⟨2, ![4, Q]⟩ .f32) (b : Fin 4) (k : Fin Q) (t : Fin S) :
    broadcastInDim ⟨3, ![4, Q, S]⟩ ![0, 1, 2] h.columns (broadcastInDim ⟨3, ![4, Q, 1]⟩ ![0, 1] h.column x) (ix3 b k t) = x (ix2 b k) := by
  have hk := k.isLt
  rw [broadcastInDim_apply _ h.columns _ (ix3 b k t) (ix3 b k 0) fun a => by
    fin_cases a
    · rfl
    · show k.val = if Q = 1 then 0 else k.val
      split <;> omega
    · rfl]
  exact broadcastInDim_apply _ h.column x (ix3 b k 0) (ix2 b k) fun a => by
    fin_cases a
    · rfl
    · show k.val = if Q = 1 then 0 else k.val
      split <;> omega

theorem spread_rows (h : Fits Q S) (x : Vec Ideal ⟨2, ![4, S]⟩ .f32) (b : Fin 4) (k : Fin Q) (t : Fin S) :
    broadcastInDim ⟨3, ![4, Q, S]⟩ ![0, 1, 2] h.rows (broadcastInDim ⟨3, ![4, 1, S]⟩ ![0, 2] h.row x) (ix3 b k t) = x (ix2 b t) := by
  have ht := t.isLt
  rw [broadcastInDim_apply _ h.rows _ (ix3 b k t) (ix3 b 0 t) fun a => by
    fin_cases a
    · rfl
    · rfl
    · show t.val = if S = 1 then 0 else t.val
      split <;> omega]
  exact broadcastInDim_apply _ h.row x (ix3 b 0 t) (ix2 b t) fun a => by
    fin_cases a
    · rfl
    · show t.val = if S = 1 then 0 else t.val
      split <;> omega

theorem cross_apply (h : Fits Q S) (q : Vec Ideal ⟨3, ![4, Q, 3]⟩ .f32) (s : Vec Ideal ⟨3, ![4, S, 3]⟩ .f32)
    (b : Fin 4) (k : Fin Q) (t : Fin S) :
    Host.dotGeneral (F := Ideal) (φ₁ := .f32) (φ₂ := .f32) (crossDims Q S h.dot) none q s (ix3 b k t) = ∑ c, q (ix3 b k c) * s (ix3 b t c) := by
  simp only [Host.dotGeneral]
  rw [Ideal.dotGeneral_apply]
  refine ((crossDims Q S h.dot).sum_contr₁ rfl rfl _).trans (Finset.sum_congr rfl fun c _ => ?_)
  congr 1
  · refine congrArg q (funext fun a => Fin.ext ?_)
    fin_cases a <;> rfl
  · refine congrArg s (funext fun a => Fin.ext ?_)
    fin_cases a <;> rfl

theorem scores_apply (h : Fits Q S) (q : Vec Ideal ⟨3, ![4, Q, 3]⟩ .f32) (s : Vec Ideal ⟨3, ![4, S, 3]⟩ .f32)
    (b : Fin 4) (k : Fin Q) (t : Fin S) :
    scores h (columnNorms h q) (norms h.pos h.ss s) q s (ix3 b k t) = -Knn.dist (fun c => q (ix3 b k c)) (fun c => s (ix3 b t c)) := by
  have a := (spread_columns h (norms h.pos h.qs q) b k t).trans (norms_apply h.pos h.qs q b k)
  have a' := (spread_rows h (norms h.pos h.ss s) b k t).trans (norms_apply h.pos h.ss s b t)
  have p := cross_apply h q s b k t
  exact congrArg Neg.neg (congrArg₂ (· - ·) (congrArg₂ (· + ·) a a') (congrArg (Ideal.ofBits .f32 0x40000000#32 * ·) p))

/-- A sort of pairs along the last axis, read at an index: the second entry at the position the row's sort puts there. -/
theorem sort_apply (gt : EReal → EReal → BitVec 1) (x : (⟨3, ![4, Q, S]⟩ : Shape).Idx → EReal) (y : IVec ⟨3, ![4, Q, S]⟩ 32)
    (b : Fin 4) (k : Fin Q) (u : Fin S) :
    (Host.sort2 ⟨3, ![4, Q, S]⟩ 2 (fun l r => gt l.1 r.1) x y).2 (ix3 b k u)
      = y (ix3 b k (sortedFrom (fun v w => gt (x (ix3 b k v)) (x (ix3 b k w)) == 1#1) u)) := by
  have along : ∀ v : Fin S, (ix3 b k u : (⟨3, ![4, Q, S]⟩ : Shape).Idx).along 2 v = ix3 b k v := fun v => by
    funext a; fin_cases a <;> rfl
  have key : ∀ A : Fin S → (⟨3, ![4, Q, S]⟩ : Shape).Idx, A = (fun v => ix3 b k v) →
      y (A (sortedFrom (fun v w => gt (x (A v)) (x (A w)) == 1#1) u))
        = y (ix3 b k (sortedFrom (fun v w => gt (x (ix3 b k v)) (x (ix3 b k w)) == 1#1) u)) := by
    rintro _ rfl; rfl
  exact key (fun v => (ix3 b k u : (⟨3, ![4, Q, S]⟩ : Shape).Idx).along 2 v) (funext along)

/-- The sort cut to its first sixteen, of a row of negated distances below `∞`: what sixteen rounds take. -/
theorem topK_apply [NeZero S] (hS : 16 ≤ S) (x : Vec Ideal ⟨3, ![4, Q, S]⟩ .f32)
    (hc : (⟨3, ![4, Q, S]⟩ : Shape).Slices (fun _ => 0) ⟨3, ![4, Q, 16]⟩) (b : Fin 4) (k : Fin Q) (d : Fin S → EReal)
    (hd : ∀ t, d t < ⊤) (hx : ∀ t, x (ix3 b k t) = -d t) (j : Fin 16) :
    (Host.topK ⟨3, ![4, Q, 16]⟩ 2 (FloatOps.cmpfTotal (F := Ideal) (φ := .f32) .gt) x hc).2 (ix3 b k j)
      = BitVec.ofNat 32 (pick d j.val).val := by
  have e : (Host.topK ⟨3, ![4, Q, 16]⟩ 2 (FloatOps.cmpfTotal (F := Ideal) (φ := .f32) .gt) x hc).2 (ix3 b k j)
      = (Host.sort2 ⟨3, ![4, Q, S]⟩ 2 (fun l r => FloatOps.cmpfTotal (F := Ideal) (φ := .f32) .gt l.1 r.1) x
          (iotaInDim ⟨3, ![4, Q, S]⟩ 32 2)).2 (ix3 b k (j.castLE hS)) :=
    extractStridedSlice_apply (fun _ => 0)
      (Host.sort2 ⟨3, ![4, Q, S]⟩ 2 (fun l r => FloatOps.cmpfTotal (F := Ideal) (φ := .f32) .gt l.1 r.1) x
        (iotaInDim ⟨3, ![4, Q, S]⟩ 32 2)).2 hc (ix3 b k j) (ix3 b k (j.castLE hS)) fun a => by
      fin_cases a
      · exact (Nat.zero_add b.val).symm
      · exact (Nat.zero_add k.val).symm
      · exact (Nat.zero_add j.val).symm
  rw [e, sort_apply (FloatOps.cmpfTotal (F := Ideal) (φ := .f32) .gt)]
  refine congrArg (fun u : Fin S => BitVec.ofNat 32 u.val) (sortedFrom_eq_pick hS d hd _ (fun u v => ?_) j)
  rw [hx, hx, Ideal.cmpfTotal_def]
  by_cases h : d u < d v
  · have h' : -d v < -d u := EReal.neg_lt_neg_iff.mpr h
    simp [Ideal.cmp, CmpDirection.ordered, h]
  · have h' : ¬ -d v < -d u := fun h' => h (EReal.neg_lt_neg_iff.mp h')
    simp [Ideal.cmp, CmpDirection.ordered, h]

/-! ## Points with real coordinates -/

/-- Every coordinate is a real number. -/
def Finite (p : Vec Ideal ⟨3, ![4, N, 3]⟩ .f32) : Prop := ∀ i, p i ≠ ⊤ ∧ p i ≠ ⊥

theorem dist_lt_top (q s : Fin 3 → EReal) (hq : ∀ c, q c ≠ ⊤ ∧ q c ≠ ⊥) (hs : ∀ c, s c ≠ ⊤ ∧ s c ≠ ⊥) : Knn.dist q s < ⊤ := by
  have two : Ideal.ofBits .f32 0x40000000#32 = ((2 : ℝ) : EReal) := by
    simp [Ideal.ofBits, Ideal.ieee]
    rw [← EReal.coe_mul]
    norm_num
  have hq' : q = fun c => ((q c).toReal : EReal) := funext fun c => (EReal.coe_toReal (hq c).1 (hq c).2).symm
  have hs' : s = fun c => ((s c).toReal : EReal) := funext fun c => (EReal.coe_toReal (hs c).1 (hs c).2).symm
  unfold Knn.dist
  rw [hq', hs', two]
  simp only [Fin.sum_univ_three, ← EReal.coe_mul, ← EReal.coe_add, ← EReal.coe_sub]
  exact EReal.coe_lt_top _

theorem Finite.sample [NeZero N] {p : Vec Ideal ⟨3, ![4, N, 3]⟩ .f32} (h : Finite p) (M : ℕ) : Finite (sample M p) := fun _ => h _

/-- THE SEARCH ON FINITE POINTS gives the sixteen nearest. -/
theorem search_eq [NeZero S] (h : Fits Q S) (hS : 16 ≤ S) (q : Vec Ideal ⟨3, ![4, Q, 3]⟩ .f32) (s : Vec Ideal ⟨3, ![4, S, 3]⟩ .f32)
    (hq : Finite q) (hs : Finite s) : search h q s = neighbours q s := by
  funext i
  obtain ⟨b, k, j, rfl⟩ : ∃ b k j, i = ix3 b k j := ⟨i 0, i 1, i 2, eq_ix3 i⟩
  exact topK_apply hS _ h.cut b k _ (fun t => dist_lt_top _ _ (fun c => hq _) (fun c => hs _)) (scores_apply h q s b k) j

end Cert.RefNear

end
-- ==== Proof.RefEnd.lean ====
/-
  THE REFERENCE'S SEVEN SEARCHES. The lines behind the sampling read off the run: each result's buffer holds the search of its own
  two layers.
-/
module

public import proofs.«01_k».proof.Proof.RefLoops
public import proofs.«01_k».proof.Proof.RefNear

@[expose] public section

noncomputable section

namespace Cert.ReferenceIdeal

open Idealize.ShloMosaic Idealize.ShloMosaic.TcCoe Idealize.ShloMosaic.StableHlo
open Cert.ReferenceIdeal.Gen Cert.Pyramid Cert.RefNear

theorem fits00 : Fits 4096 4096 :=
  ⟨h_S_, reducesTo_S4x4096x3_S4x4096_d2, reducesTo_S4x4096x3_S4x4096_d2, bcast_S4x4096_S4x4096x1_0_1, bcast_S4x4096_S4x1x4096_0_2,
    bcast_S4x4096x1_S4x4096x4096_0_1_2, bcast_S4x1x4096_S4x4096x4096_0_1_2, dot_S4x4096x3_S4x4096x3_S4x4096x4096_2_2_1_1_0_0_wf,
    bcast_S_S4x4096x4096, sliceFits_S4x4096x4096_S4x4096x16⟩
theorem fits10 : Fits 1024 4096 :=
  ⟨h_S_, reducesTo_S4x1024x3_S4x1024_d2, reducesTo_S4x4096x3_S4x4096_d2, bcast_S4x1024_S4x1024x1_0_1, bcast_S4x4096_S4x1x4096_0_2,
    bcast_S4x1024x1_S4x1024x4096_0_1_2, bcast_S4x1x4096_S4x1024x4096_0_1_2, dot_S4x1024x3_S4x4096x3_S4x1024x4096_2_2_1_1_0_0_wf,
    bcast_S_S4x1024x4096, sliceFits_S4x1024x4096_S4x1024x16⟩
theorem fits01 : Fits 4096 1024 :=
  ⟨h_S_, reducesTo_S4x4096x3_S4x4096_d2, reducesTo_S4x1024x3_S4x1024_d2, bcast_S4x4096_S4x4096x1_0_1, bcast_S4x1024_S4x1x1024_0_2,
    bcast_S4x4096x1_S4x4096x1024_0_1_2, bcast_S4x1x1024_S4x4096x1024_0_1_2, dot_S4x4096x3_S4x1024x3_S4x4096x1024_2_2_1_1_0_0_wf,
    bcast_S_S4x4096x1024, sliceFits_S4x4096x1024_S4x4096x16⟩
theorem fits11 : Fits 1024 1024 :=
  ⟨h_S_, reducesTo_S4x1024x3_S4x1024_d2, reducesTo_S4x1024x3_S4x1024_d2, bcast_S4x1024_S4x1024x1_0_1, bcast_S4x1024_S4x1x1024_0_2,
    bcast_S4x1024x1_S4x1024x1024_0_1_2, bcast_S4x1x1024_S4x1024x1024_0_1_2, dot_S4x1024x3_S4x1024x3_S4x1024x1024_2_2_1_1_0_0_wf,
    bcast_S_S4x1024x1024, sliceFits_S4x1024x1024_S4x1024x16⟩
theorem fits21 : Fits 256 1024 :=
  ⟨h_S_, reducesTo_S4x256x3_S4x256_d2, reducesTo_S4x1024x3_S4x1024_d2, bcast_S4x256_S4x256x1_0_1, bcast_S4x1024_S4x1x1024_0_2,
    bcast_S4x256x1_S4x256x1024_0_1_2, bcast_S4x1x1024_S4x256x1024_0_1_2, dot_S4x256x3_S4x1024x3_S4x256x1024_2_2_1_1_0_0_wf,
    bcast_S_S4x256x1024, sliceFits_S4x256x1024_S4x256x16⟩
theorem fits12 : Fits 1024 256 :=
  ⟨h_S_, reducesTo_S4x1024x3_S4x1024_d2, reducesTo_S4x256x3_S4x256_d2, bcast_S4x1024_S4x1024x1_0_1, bcast_S4x256_S4x1x256_0_2,
    bcast_S4x1024x1_S4x1024x256_0_1_2, bcast_S4x1x256_S4x1024x256_0_1_2, dot_S4x1024x3_S4x256x3_S4x1024x256_2_2_1_1_0_0_wf,
    bcast_S_S4x1024x256, sliceFits_S4x1024x256_S4x1024x16⟩
theorem fits22 : Fits 256 256 :=
  ⟨h_S_, reducesTo_S4x256x3_S4x256_d2, reducesTo_S4x256x3_S4x256_d2, bcast_S4x256_S4x256x1_0_1, bcast_S4x256_S4x1x256_0_2,
    bcast_S4x256x1_S4x256x256_0_1_2, bcast_S4x1x256_S4x256x256_0_1_2, dot_S4x256x3_S4x256x3_S4x256x256_2_2_1_1_0_0_wf,
    bcast_S_S4x256x256, sliceFits_S4x256x256_S4x256x16⟩

/-- The coordinates squared. -/
def squares {N : ℕ} (p : Vec Ideal ⟨3, ![4, N, 3]⟩ .f32) : Vec Ideal ⟨3, ![4, N, 3]⟩ .f32 :=
  mulf (F := Ideal) (φ := .f32) p p

/-- Where a sum starts. -/
def nought : Vec Ideal S_ .f32 := constant (F := Ideal) S_ .f32 0#32

/-- The three coordinates summed. -/
def rowSums {N : ℕ} (h0 : 0 < S_.numel) (h : (⟨3, ![4, N, 3]⟩ : Shape).ReducesTo [2] ⟨2, ![4, N]⟩)
    (x : Vec Ideal ⟨3, ![4, N, 3]⟩ .f32) (z : Vec Ideal S_ .f32) : Vec Ideal ⟨2, ![4, N]⟩ .f32 :=
  Host.reduceAdd (F := Ideal) (φ := .f32) x z h h0

/-- The squared norms are those sums. -/
theorem rowSums_squares {N : ℕ} (h0 : 0 < S_.numel) (h : (⟨3, ![4, N, 3]⟩ : Shape).ReducesTo [2] ⟨2, ![4, N]⟩)
    (p : Vec Ideal ⟨3, ![4, N, 3]⟩ .f32) : rowSums h0 h (squares p) nought = norms h0 h p := rfl

variable (V : Valuation τ sig (Elt Ideal))

theorem near0_nb0 : after near0 V (Proc.devRef .tc main_indices)
    = search fits00 (V (Proc.devRef .tc main_arg0)) (V (Proc.devRef .tc main_arg0)) := by
  after_results; rfl

theorem near0_sub0 : after near0 V (Proc.devRef .tc main_v33) = norms h_S_ fits10.qs (V (Proc.devRef .tc main_v8)) := by
  after_results; rfl

theorem near1_sub0 : after near1 V (Proc.devRef .tc main_indices_15)
    = searchFrom fits10 (broadcastInDim S4x1024x1 ![0, 1] fits10.column (V (Proc.devRef .tc main_v33)))
        (norms h_S_ fits10.ss (V (Proc.devRef .tc main_arg0))) (V (Proc.devRef .tc main_v8)) (V (Proc.devRef .tc main_arg0)) := by
  after_results; rfl

theorem near1_up0 : after near1 V (Proc.devRef .tc main_indices_20) = search fits01 (V (Proc.devRef .tc main_arg0)) (V (Proc.devRef .tc main_v8)) := by
  after_results; rfl

theorem near1_nb1 : after near1 V (Proc.devRef .tc main_indices_25) = search fits11 (V (Proc.devRef .tc main_v8)) (V (Proc.devRef .tc main_v8)) := by
  after_results; rfl

theorem near1_column : after near1 V (Proc.devRef .tc main_v76) = columnNorms fits21 (V (Proc.devRef .tc main_v17)) := by
  after_results; rfl

theorem near1_squares : after near1 V (Proc.devRef .tc main_v77) = squares (V (Proc.devRef .tc main_v8)) := by
  after_results; rfl

theorem near1_zero : after near1 V (Proc.devRef .tc main_cst_27) = nought := by
  after_results; rfl

theorem near2_sub1 : after near2 V (Proc.devRef .tc main_indices_30)
    = searchFrom fits21 (V (Proc.devRef .tc main_v76))
        (rowSums h_S_ fits21.ss (V (Proc.devRef .tc main_v77)) (V (Proc.devRef .tc main_cst_27)))
        (V (Proc.devRef .tc main_v17)) (V (Proc.devRef .tc main_v8)) := by
  after_results; rfl

theorem near2_up1 : after near2 V (Proc.devRef .tc main_indices_35) = search fits12 (V (Proc.devRef .tc main_v8)) (V (Proc.devRef .tc main_v17)) := by
  after_results; rfl

theorem near2_nb2 : after near2 V (Proc.devRef .tc main_indices_40) = search fits22 (V (Proc.devRef .tc main_v17)) (V (Proc.devRef .tc main_v17)) := by
  after_results; rfl

/-! ## The results at the end of the run -/

theorem end_eq (m : (ℓ : Loc nD τ sig) → Buf (Elt Ideal) ℓ) (c : Dev nD) : endContents m c = after near2 (after near1 (after near0 (points m c))) := rfl

theorem p1 (m : (ℓ : Loc nD τ sig) → Buf (Elt Ideal) ℓ) (c : Dev nD) : endContents m c (Proc.devRef .tc main_v8) = layer1 (m ((c.tc : Thread nD τ).loc main_arg0)) := by
  rw [end_eq, after_of_writes_sub (r := main_v8) near2 _ near2_writes (by decide),
    after_of_writes_sub (r := main_v8) near1 _ near1_writes (by decide), after_of_writes_sub (r := main_v8) near0 _ near0_writes (by decide)]
  exact (points_layers m c).2.1

theorem p2 (m : (ℓ : Loc nD τ sig) → Buf (Elt Ideal) ℓ) (c : Dev nD) : endContents m c (Proc.devRef .tc main_v17) = layer2 (m ((c.tc : Thread nD τ).loc main_arg0)) := by
  rw [end_eq, after_of_writes_sub (r := main_v17) near2 _ near2_writes (by decide),
    after_of_writes_sub (r := main_v17) near1 _ near1_writes (by decide), after_of_writes_sub (r := main_v17) near0 _ near0_writes (by decide)]
  exact (points_layers m c).2.2

theorem nb0 (m : (ℓ : Loc nD τ sig) → Buf (Elt Ideal) ℓ) (c : Dev nD) (h : Finite (m ((c.tc : Thread nD τ).loc main_arg0))) :
    endContents m c (Proc.devRef .tc main_indices) = neighbours (m ((c.tc : Thread nD τ).loc main_arg0)) (m ((c.tc : Thread nD τ).loc main_arg0)) := by
  rw [end_eq, after_of_writes_sub (r := main_indices) near2 _ near2_writes (by decide),
    after_of_writes_sub (r := main_indices) near1 _ near1_writes (by decide),
    near0_nb0,
    (points_layers m c).1]
  exact search_eq fits00 (by norm_num) _ _ h h

theorem sub0 (m : (ℓ : Loc nD τ sig) → Buf (Elt Ideal) ℓ) (c : Dev nD) (h : Finite (m ((c.tc : Thread nD τ).loc main_arg0))) :
    endContents m c (Proc.devRef .tc main_indices_15) = neighbours (layer1 (m ((c.tc : Thread nD τ).loc main_arg0))) (m ((c.tc : Thread nD τ).loc main_arg0)) := by
  rw [end_eq, after_of_writes_sub (r := main_indices_15) near2 _ near2_writes (by decide),
    near1_sub0,
    near0_sub0,
    after_of_writes_sub (r := main_v8) near0 _ near0_writes (by decide),
    after_of_writes_sub (r := main_arg0) near0 _ near0_writes (by decide),
    (points_layers m c).2.1,
    (points_layers m c).1]
  exact search_eq fits10 (by norm_num) _ _ (h.sample 1024) h

theorem up0 (m : (ℓ : Loc nD τ sig) → Buf (Elt Ideal) ℓ) (c : Dev nD) (h : Finite (m ((c.tc : Thread nD τ).loc main_arg0))) :
    endContents m c (Proc.devRef .tc main_indices_20) = neighbours (m ((c.tc : Thread nD τ).loc main_arg0)) (layer1 (m ((c.tc : Thread nD τ).loc main_arg0))) := by
  rw [end_eq, after_of_writes_sub (r := main_indices_20) near2 _ near2_writes (by decide),
    near1_up0,
    after_of_writes_sub (r := main_arg0) near0 _ near0_writes (by decide),
    after_of_writes_sub (r := main_v8) near0 _ near0_writes (by decide),
    (points_layers m c).1,
    (points_layers m c).2.1]
  exact search_eq fits01 (by norm_num) _ _ h (h.sample 1024)

theorem nb1 (m : (ℓ : Loc nD τ sig) → Buf (Elt Ideal) ℓ) (c : Dev nD) (h : Finite (m ((c.tc : Thread nD τ).loc main_arg0))) :
    endContents m c (Proc.devRef .tc main_indices_25) = neighbours (layer1 (m ((c.tc : Thread nD τ).loc main_arg0))) (layer1 (m ((c.tc : Thread nD τ).loc main_arg0))) := by
  rw [end_eq, after_of_writes_sub (r := main_indices_25) near2 _ near2_writes (by decide),
    near1_nb1,
    after_of_writes_sub (r := main_v8) near0 _ near0_writes (by decide),
    (points_layers m c).2.1]
  exact search_eq fits11 (by norm_num) _ _ (h.sample 1024) (h.sample 1024)

theorem sub1 (m : (ℓ : Loc nD τ sig) → Buf (Elt Ideal) ℓ) (c : Dev nD) (h : Finite (m ((c.tc : Thread nD τ).loc main_arg0))) :
    endContents m c (Proc.devRef .tc main_indices_30) = neighbours (layer2 (m ((c.tc : Thread nD τ).loc main_arg0))) (layer1 (m ((c.tc : Thread nD τ).loc main_arg0))) := by
  rw [end_eq, near2_sub1,
    near1_column,
    near1_squares,
    near1_zero,
    rowSums_squares,
    after_of_writes_sub (r := main_v17) near1 _ near1_writes (by decide),
    after_of_writes_sub (r := main_v17) near0 _ near0_writes (by decide),
    after_of_writes_sub (r := main_v8) near1 _ near1_writes (by decide),
    after_of_writes_sub (r := main_v8) near0 _ near0_writes (by decide),
    (points_layers m c).2.2,
    (points_layers m c).2.1]
  exact search_eq fits21 (by norm_num) _ _ ((h.sample 1024).sample 256) (h.sample 1024)

theorem up1 (m : (ℓ : Loc nD τ sig) → Buf (Elt Ideal) ℓ) (c : Dev nD) (h : Finite (m ((c.tc : Thread nD τ).loc main_arg0))) :
    endContents m c (Proc.devRef .tc main_indices_35) = neighbours (layer1 (m ((c.tc : Thread nD τ).loc main_arg0))) (layer2 (m ((c.tc : Thread nD τ).loc main_arg0))) := by
  rw [end_eq, near2_up1,
    after_of_writes_sub (r := main_v8) near1 _ near1_writes (by decide),
    after_of_writes_sub (r := main_v8) near0 _ near0_writes (by decide),
    after_of_writes_sub (r := main_v17) near1 _ near1_writes (by decide),
    after_of_writes_sub (r := main_v17) near0 _ near0_writes (by decide),
    (points_layers m c).2.1,
    (points_layers m c).2.2]
  exact search_eq fits12 (by norm_num) _ _ (h.sample 1024) ((h.sample 1024).sample 256)

theorem nb2 (m : (ℓ : Loc nD τ sig) → Buf (Elt Ideal) ℓ) (c : Dev nD) (h : Finite (m ((c.tc : Thread nD τ).loc main_arg0))) :
    endContents m c (Proc.devRef .tc main_indices_40) = neighbours (layer2 (m ((c.tc : Thread nD τ).loc main_arg0))) (layer2 (m ((c.tc : Thread nD τ).loc main_arg0))) := by
  rw [end_eq, near2_nb2,
    after_of_writes_sub (r := main_v17) near1 _ near1_writes (by decide),
    after_of_writes_sub (r := main_v17) near0 _ near0_writes (by decide),
    (points_layers m c).2.2]
  exact search_eq fits22 (by norm_num) _ _ ((h.sample 1024).sample 256) ((h.sample 1024).sample 256)

end Cert.ReferenceIdeal

end
-- ==== Proof.Condition.lean ====
/-
  THE PRECONDITION. What the printed test says of the points: every coordinate is a real number.
-/
module

public import proofs.«01_k».proof.Pre_finite
public import proofs.«01_k».proof.Proof.RefNear
public import Idealize.ShloMosaic.Lib.ReduceAll

@[expose] public section

noncomputable section

namespace Cert.Condition

open Idealize.ShloMosaic

/-- The shape relations the test takes. -/
theorem facts : Cert.Pre_finite.Facts := ⟨by decide, by decide, by decide⟩

/-- Points that pass the test have real coordinates. -/
theorem finite_of_test (p : Vec Ideal ⟨3, ![4, 4096, 3]⟩ .f32)
    (h : @Cert.Pre_finite.fn facts Ideal _ p = fun _ => 1#1) : Cert.RefNear.Finite p := by
  intro i
  haveI : Subsingleton Cert.Pre_finite.S_.Idx := ⟨fun a b => funext fun k => k.elim0⟩
  have all : Host.reduce IntOp.andi (cmpf (F := Ideal) .olt (Host.absf p) (broadcastInDim Cert.Pre_finite.S4x4096x3 ![]
      facts.bcast_S_S4x4096x3 (constant Cert.Pre_finite.S_ .f32 0x7F800000#32))) (constantI Cert.Pre_finite.S_ 1 1#1)
      facts.reducesTo_S4x4096x3_S_d0_1_2 facts.h_S_ = fun _ => 1#1 := h
  have e := Host.reduce_andi_all _ _ _ _ (Shape.Idx.first facts.h_S_) (congrFun all _) i
  change Ideal.cmp .olt (max (p i) (-(p i))) (Ideal.ofBits .f32 0x7F800000#32) = 1#1 at e
  rw [Cert.Knn.ofBits_inf] at e
  have l : max (p i) (-(p i)) < ⊤ := (Ideal.cmp_olt_eq_one _ _).1 e
  rw [max_lt_iff] at l
  exact ⟨l.1.ne, fun hb => l.2.ne (by rw [hb, EReal.neg_bot])⟩

end Cert.Condition

end
-- ==== Proof.lean ====
/-
  THE CERTIFICATE. Kernel and reference both compute, of every cloud, the two sampled layers and the sixteen nearest of the seven
  pairs of layers; here the two runs are put side by side. What each run leaves is in `KernelRun` and `RefEnd`; what the results are
  — `layer1`, `layer2`, `neighbours` — is defined in `Pyramid`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefEnd
public import proofs.«01_k».proof.Proof.Condition
public import Idealize.ShloMosaic.Adequacy
public import Idealize.ShloMosaic.Init

@[expose] public section

noncomputable section

namespace Cert.Proof

open Idealize.ShloMosaic Idealize.ShloMosaic.TcCoe Idealize.SL.Sem Cert.Pyramid

section Kernel

open Cert.KernelIdeal Cert.KernelIdeal.Gen Cert.KernelIdeal.Results

/-- Every execution of the kernel ends with the layers and the neighbours in its result buffers. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = points m c
      ∧ r.2.mem ((c.tc : Thread nD τ).loc main_v1) = layer1 (points m c)
      ∧ r.2.mem ((c.tc : Thread nD τ).loc main_v3) = layer2 (points m c)
      ∧ r.2.mem ((c.tc : Thread nD τ).loc main_v5) = neighbours (points m c) (points m c)
      ∧ r.2.mem ((c.tc : Thread nD τ).loc main_v6) = neighbours (layer1 (points m c)) (layer1 (points m c))
      ∧ r.2.mem ((c.tc : Thread nD τ).loc main_v7) = neighbours (layer2 (points m c)) (layer2 (points m c))
      ∧ r.2.mem ((c.tc : Thread nD τ).loc main_v8) = neighbours (layer1 (points m c)) (points m c)
      ∧ r.2.mem ((c.tc : Thread nD τ).loc main_v9) = neighbours (layer2 (points m c)) (layer1 (points m c))
      ∧ r.2.mem ((c.tc : Thread nD τ).loc main_v10) = neighbours (points m c) (layer1 (points m c))
      ∧ r.2.mem ((c.tc : Thread nD τ).loc main_v11) = neighbours (layer1 (points m c)) (layer2 (points m c))) :=
  (θ_run defs _ _).mono (fun _ h c =>
    ⟨(h c main_arg0 (by decide)).trans (layers12 m ρ c).p0, (h c main_v1 (by decide)).trans (layers12 m ρ c).p1,
      (h c main_v3 (by decide)).trans (layers12 m ρ c).p2, (h c main_v5 (by decide)).trans (nb0 m ρ c),
      (h c main_v6 (by decide)).trans (nb1 m ρ c), (h c main_v7 (by decide)).trans (nb2 m ρ c),
      (h c main_v8 (by decide)).trans (sub0 m ρ c), (h c main_v9 (by decide)).trans (sub1 m ρ c),
      (h c main_v10 (by decide)).trans (up0 m ρ c), (h c main_v11 (by decide)).trans (up1 m ρ c)⟩) (run m ρ)

end Kernel

section Reference

open Cert.ReferenceIdeal Cert.ReferenceIdeal.Gen Cert.RefNear

/-- Every execution of the reference on real coordinates ends with the same in its own. -/
theorem reference_run (m : (ℓ : Loc nD τ sig) → Buf (Elt Ideal) ℓ) (ρ : Dev nD → PrngReg) (p : Dev nD → Vec Ideal ⟨3, ![4, 4096, 3]⟩ .f32)
    (hp : ∀ c : Dev nD, m ((c.tc : Thread nD τ).loc main_arg0) = p c) (fin : ∀ c, Finite (p c)) :
    θ_run (defs (F := Ideal)) (onTc (τ := τ) (main (F := Ideal))) ⟨m, fun _ => 0, ρ⟩ (fun r => ∀ c : Dev nD,
      r.2.mem ((c.tc : Thread nD τ).loc main_arg0) = p c
      ∧ r.2.mem ((c.tc : Thread nD τ).loc main_v8) = layer1 (p c)
      ∧ r.2.mem ((c.tc : Thread nD τ).loc main_v17) = layer2 (p c)
      ∧ r.2.mem ((c.tc : Thread nD τ).loc main_indices) = neighbours (p c) (p c)
      ∧ r.2.mem ((c.tc : Thread nD τ).loc main_indices_25) = neighbours (layer1 (p c)) (layer1 (p c))
      ∧ r.2.mem ((c.tc : Thread nD τ).loc main_indices_40) = neighbours (layer2 (p c)) (layer2 (p c))
      ∧ r.2.mem ((c.tc : Thread nD τ).loc main_indices_15) = neighbours (layer1 (p c)) (p c)
      ∧ r.2.mem ((c.tc : Thread nD τ).loc main_indices_30) = neighbours (layer2 (p c)) (layer1 (p c))
      ∧ r.2.mem ((c.tc : Thread nD τ).loc main_indices_20) = neighbours (p c) (layer1 (p c))
      ∧ r.2.mem ((c.tc : Thread nD τ).loc main_indices_35) = neighbours (layer1 (p c)) (layer2 (p c))) := by
  refine (θ_run defs _ _).mono (fun _ h c => ?_) (run m ρ)
  have f : Finite (m ((c.tc : Thread nD τ).loc main_arg0)) := by rw [hp c]; exact fin c
  rw [← hp c]
  exact ⟨(h.1 c main_arg0 rfl).trans (end_arg m c), (h.1 c main_v8 rfl).trans (p1 m c), (h.1 c main_v17 rfl).trans (p2 m c),
    (h.1 c main_indices rfl).trans (nb0 m c f), (h.1 c main_indices_25 rfl).trans (nb1 m c f),
    (h.1 c main_indices_40 rfl).trans (nb2 m c f), (h.1 c main_indices_15 rfl).trans (sub0 m c f),
    (h.1 c main_indices_30 rfl).trans (sub1 m c f), (h.1 c main_indices_20 rfl).trans (up0 m c f),
    (h.1 c main_indices_35 rfl).trans (up1 m c f)⟩

end Reference

open Cert.KernelIdeal.Results (points)

/-- On real coordinates the kernel's ten results are the reference's. -/
theorem equal : Cert.algebraic_KernelIdeal_ReferenceIdeal_pre_finite (hKernelIdeal := Cert.KernelIdeal.Gen.facts)
    (hReferenceIdeal := Cert.ReferenceIdeal.Gen.facts) (hPre_finite := Cert.Condition.facts) := by
  intro m g m' g' pre same
  have fin : ∀ c, Cert.RefNear.Finite (points m c) := fun c => Cert.Condition.finite_of_test _ (pre c)
  refine ⟨fun c => points m c, fun c => layer1 (points m c), fun c => layer2 (points m c), fun c => neighbours (points m c) (points m c),
    fun c => neighbours (layer1 (points m c)) (layer1 (points m c)), fun c => neighbours (layer2 (points m c)) (layer2 (points m c)),
    fun c => neighbours (layer1 (points m c)) (points m c), fun c => neighbours (layer2 (points m c)) (layer1 (points m c)),
    fun c => neighbours (points m c) (layer1 (points m c)), fun c => neighbours (layer1 (points m c)) (layer2 (points m c)), ?_, ?_⟩
  · refine (θ_run _ _ _).mono (fun _ h c => ?_) (kernel_run m g)
    obtain ⟨h0, h1, h2, h3, h4, h5, h6, h7, h8, h9⟩ := h c
    exact ⟨h0, h1, h2, h3, h4, h5, h6, h7, h8, h9, h0⟩
  · refine (θ_run _ _ _).mono (fun _ h c => ?_) (reference_run m' g' (fun c => points m c) same fin)
    obtain ⟨h0, h1, h2, h3, h4, h5, h6, h7, h8, h9⟩ := h c
    exact ⟨h0, h1, h2, h3, h4, h5, h6, h7, h8, h9, h0.trans (same c).symm⟩

theorem claim : Cert.Claim :=
  ⟨Cert.Kernel.Gen.facts, Cert.KernelIdeal.Gen.facts, Cert.ReferenceIdeal.Gen.facts, Cert.Condition.facts,
    fun m ρ _ => Cert.Kernel.Gen.frame m ρ, fun m ρ _ => Cert.KernelIdeal.Gen.frame m ρ, fun m ρ _ => Cert.KernelIdeal.Gen.frame m ρ,
    fun m ρ _ => Cert.ReferenceIdeal.frame m ρ, fun m ρ _ => Cert.ReferenceIdeal.frame m ρ, trivial, equal⟩

end Cert.Proof

end
